-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S16384x3 : Shape := ⟨2, ![16384, 3]⟩
abbrev S1000000x3 : Shape := ⟨2, ![1000000, 3]⟩
abbrev S26 : Shape := ⟨1, ![26]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x3 .f32) (main_arg1 : FVec F S16384x3 .f32) (main_arg2 : FVec F S1000000x3 .f32) (main_arg3 : FVec F S1000000x3 .f32) (main_arg4 : FVec F S26 .f32) (main_arg5 : IVec S16384 32) (main_arg6 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg5 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg5 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg6 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 26#32
  let main_v11 : IVec S16384 32 := broadcastInDim S16384 ![] bcast_S_S16384 main_c_5
  let main_v12 : IVec S16384 1 := cmpi .slt main_arg6 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384x3 : Shape := ⟨2, ![16384, 3]⟩
abbrev S1000000x3 : Shape := ⟨2, ![1000000, 3]⟩
abbrev S26 : Shape := ⟨1, ![26]⟩
abbrev S16384 : Shape := ⟨1, ![16384]⟩
abbrev S_ : Shape := ⟨0, ![]⟩
abbrev S1000448x4 : Shape := ⟨2, ![1000448, 4]⟩
abbrev S7816x128x4 : Shape := ⟨3, ![7816, 128, 4]⟩
abbrev S7816x4x128 : Shape := ⟨3, ![7816, 4, 128]⟩
abbrev S4001792 : Shape := ⟨1, ![4001792]⟩
abbrev S3x16384 : Shape := ⟨2, ![3, 16384]⟩
abbrev S49152 : Shape := ⟨1, ![49152]⟩
abbrev S128x128 : Shape := ⟨2, ![128, 128]⟩
abbrev S6x16384 : Shape := ⟨2, ![6, 16384]⟩
abbrev S4x128 : Shape := ⟨2, ![4, 128]⟩
abbrev S512 : Shape := ⟨1, ![512]⟩
abbrev S6x512 : Shape := ⟨2, ![6, 512]⟩
abbrev S16 : Shape := ⟨1, ![16]⟩
abbrev S1x16 : Shape := ⟨2, ![1, 16]⟩
abbrev S1x512 : Shape := ⟨2, ![1, 512]⟩
abbrev S128 : Shape := ⟨1, ![128]⟩
abbrev S1x128 : Shape := ⟨2, ![1, 128]⟩
abbrev S1x16384 : Shape := ⟨2, ![1, 16384]⟩
abbrev S16384x6 : Shape := ⟨2, ![16384, 6]⟩

abbrev nBuf : Table → Nat
  | .hbm => 29
  | .local .scVector .vmem => 10
  | _ => 0

abbrev bufTy : (tb : Table) → Fin (nBuf tb) → BufTy
  | .hbm, ⟨0, _⟩ => ⟨S16384x3, .f32⟩
  | .hbm, ⟨1, _⟩ => ⟨S16384x3, .f32⟩
  | .hbm, ⟨2, _⟩ => ⟨S1000000x3, .f32⟩
  | .hbm, ⟨3, _⟩ => ⟨S1000000x3, .f32⟩
  | .hbm, ⟨4, _⟩ => ⟨S26, .f32⟩
  | .hbm, ⟨5, _⟩ => ⟨S16384, .i32⟩
  | .hbm, ⟨6, _⟩ => ⟨S16384, .i32⟩
  | .hbm, ⟨7, _⟩ => ⟨S_, .i32⟩
  | .hbm, ⟨8, _⟩ => ⟨S_, .f32⟩
  | .hbm, ⟨9, _⟩ => ⟨S1000448x4, .f32⟩
  | .hbm, ⟨10, _⟩ => ⟨S7816x128x4, .f32⟩
  | .hbm, ⟨11, _⟩ => ⟨S7816x128x4, .f32⟩
  | .hbm, ⟨12, _⟩ => ⟨S7816x4x128, .f32⟩
  | .hbm, ⟨13, _⟩ => ⟨S4001792, .f32⟩
  | .hbm, ⟨14, _⟩ => ⟨S_, .i32⟩
  | .hbm, ⟨15, _⟩ => ⟨S_, .f32⟩
  | .hbm, ⟨16, _⟩ => ⟨S1000448x4, .f32⟩
  | .hbm, ⟨17, _⟩ => ⟨S7816x128x4, .f32⟩
  | .hbm, ⟨18, _⟩ => ⟨S7816x128x4, .f32⟩
  | .hbm, ⟨19, _⟩ => ⟨S7816x4x128, .f32⟩
  | .hbm, ⟨20, _⟩ => ⟨S4001792, .f32⟩
  | .hbm, ⟨21, _⟩ => ⟨S3x16384, .f32⟩
  | .hbm, ⟨22, _⟩ => ⟨S49152, .f32⟩
  | .hbm, ⟨23, _⟩ => ⟨S3x16384, .f32⟩
  | .hbm, ⟨24, _⟩ => ⟨S49152, .f32⟩
  | .hbm, ⟨25, _⟩ => ⟨S128x128, .i32⟩
  | .hbm, ⟨26, _⟩ => ⟨S6x16384, .f32⟩
  | .hbm, ⟨27, _⟩ => ⟨S16384, .f32⟩
  | .hbm, ⟨28, _⟩ => ⟨S16384x6, .f32⟩
  | .local .scVector .vmem, ⟨0, _⟩ => ⟨S4x128, .i32⟩
  | .local .scVector .vmem, ⟨1, _⟩ => ⟨S4x128, .i32⟩
  | .local .scVector .vmem, ⟨2, _⟩ => ⟨S4x128, .i32⟩
  | .local .scVector .vmem, ⟨3, _⟩ => ⟨S4x128, .i32⟩
  | .local .scVector .vmem, ⟨4, _⟩ => ⟨S512, .i32⟩
  | .local .scVector .vmem, ⟨5, _⟩ => ⟨S6x512, .f32⟩
  | .local .scVector .vmem, ⟨6, _⟩ => ⟨S6x512, .f32⟩
  | .local .scVector .vmem, ⟨7, _⟩ => ⟨S6x512, .f32⟩
  | .local .scVector .vmem, ⟨8, _⟩ => ⟨S512, .f32⟩
  | .local .scVector .vmem, ⟨9, _⟩ => ⟨S26, .f32⟩
  | _, _ => ⟨S16384x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v16 : Ref sig .tc := ⟨.hbm, 28, rfl⟩
abbrev main_v4_scv : Ref sig .scVector := ⟨.hbm, 13, rfl⟩
abbrev main_v9_scv : Ref sig .scVector := ⟨.hbm, 20, rfl⟩
abbrev main_v11_scv : Ref sig .scVector := ⟨.hbm, 22, rfl⟩
abbrev main_v13_scv : Ref sig .scVector := ⟨.hbm, 24, rfl⟩
abbrev main_arg4_scv : Ref sig .scVector := ⟨.hbm, 4, rfl⟩
abbrev main_v14_scv : Ref sig .scVector := ⟨.hbm, 25, rfl⟩
abbrev main_arg6_scv : Ref sig .scVector := ⟨.hbm, 6, rfl⟩
abbrev main_v15_0_scv : Ref sig .scVector := ⟨.hbm, 26, rfl⟩
abbrev main_v15_1_scv : Ref sig .scVector := ⟨.hbm, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_317_r0 : BitVec 32 := 0#32
  ![v3.toNat, 0]
@[reducible] def k0_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k0_off2 (k0_t1 : Fin k0_t1_loop.trips) : Fin 2 → Nat :=
  let c0_i32_0 : BitVec 32 := 0#32
  let c1_i32 : BitVec 32 := 1#32
  let arg23 : BitVec 32 := Scf.iv c0_i32_0 c1_i32 k0_t1
  let c0_i32_317 : BitVec 32 := 0#32
  let v302 : BitVec 1 := Scalar.cmpi .sgt arg23 c0_i32_317
  let v303 : BitVec 32 := Scalar.extui v302
  let c0_i32_318 : BitVec 32 := 0#32
  let v304 : BitVec 1 := Scalar.cmpi .slt arg23 c0_i32_318
  let v305 : BitVec 32 := Scalar.extui v304
  let v306 : BitVec 32 := Scalar.subi v303 v305
  let c8_i32 : BitVec 32 := 8#32
  let c0_i32_319 : BitVec 32 := 0#32
  let v307 : BitVec 1 := Scalar.cmpi .sgt c8_i32 c0_i32_319
  let v308 : BitVec 32 := Scalar.extui v307
  let c0_i32_320 : BitVec 32 := 0#32
  let v309 : BitVec 1 := Scalar.cmpi .slt c8_i32 c0_i32_320
  let v310 : BitVec 32 := Scalar.extui v309
  let v311 : BitVec 32 := Scalar.subi v308 v310
  let v312 : BitVec 1 := Scalar.cmpi .ne v306 v311
  let v313 : BitVec 32 := Scalar.remsi arg23 c8_i32
  let c0_i32_321 : BitVec 32 := 0#32
  let v314 : BitVec 1 := Scalar.cmpi .ne v313 c0_i32_321
  let v315 : BitVec 1 := Scalar.andi v312 v314
  let v301 : BitVec 32 := Scalar.divsi arg23 c8_i32
  let c1_i32_322 : BitVec 32 := 1#32
  let v316 : BitVec 32 := Scalar.subi v301 c1_i32_322
  let v317 : BitVec 32 := Scalar.select v315 v316 v301
  let v329 : Index := Scalar.indexCast v317
  let c8_i32_323 : BitVec 32 := 8#32
  let c0_i32_324 : BitVec 32 := 0#32
  let v318 : BitVec 1 := Scalar.cmpi .eq c8_i32_323 c0_i32_324
  let c1_i32_325 : BitVec 32 := 1#32
  let v319 : BitVec 32 := Scalar.select v318 c1_i32_325 c8_i32_323
  let v320 : BitVec 32 := Scalar.remsi arg23 v319
  let c0_i32_327 : BitVec 32 := 0#32
  let v322 : BitVec 1 := Scalar.cmpi .slt v320 c0_i32_327
  let c0_i32_328 : BitVec 32 := 0#32
  let v323 : BitVec 1 := Scalar.cmpi .slt v319 c0_i32_328
  let v324 : BitVec 1 := Scalar.xori v322 v323
  let c0_i32_326 : BitVec 32 := 0#32
  let v321 : BitVec 1 := Scalar.cmpi .ne v320 c0_i32_326
  let v325 : BitVec 1 := Scalar.andi v324 v321
  let v326 : BitVec 32 := Scalar.addi v320 v319
  let v327 : BitVec 32 := Scalar.select v325 v326 v320
  let c16_i32 : BitVec 32 := 16#32
  let v328 : BitVec 32 := Scalar.muli v327 c16_i32
  let v330 : Index := Scalar.indexCast v328
  ![v329.toNat, v330.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off4 (i : grid0.Coords) (c0_i32_141 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v149 : BitVec 32 := Scalar.addi c0_i32_141 v2
  ![v149.toNat]
@[reducible] def k0_t2_loop : Scf.Loop 32 :=
  let c0_i32_152 : BitVec 32 := 0#32
  let c32_i32_153 : BitVec 32 := 32#32
  let v155 : BitVec 32 := Scalar.addi c0_i32_152 c32_i32_153
  let c1_i32_154 : BitVec 32 := 1#32
  ⟨c0_i32_152, v155, c1_i32_154⟩
def k0_off5 (k0_t2 : Fin k0_t2_loop.trips) : Fin 1 → Nat :=
  let c0_i32_152 : BitVec 32 := 0#32
  let c1_i32_154 : BitVec 32 := 1#32
  let arg23 : BitVec 32 := Scf.iv c0_i32_152 c1_i32_154 k0_t2
  let c16_i32 : BitVec 32 := 16#32
  let v301 : BitVec 32 := Scalar.muli arg23 c16_i32
  let v302 : Index := Scalar.indexCast v301
  ![v302.toNat]

def k0_chk1 (v303 : IVec S16 32) : Prop :=
  (∀ a x, ((![v303] : Fin 1 → IVec S16 32) a x).toNat < S26.size a)
theorem k0_idx1_inb : ∀ (v303 : IVec S16 32) (k0_hw1 : k0_chk1 v303), ∀ a x, ((![v303] : Fin 1 → IVec S16 32) a x).toNat < S26.size a := fun v303 k0_hw1 => k0_hw1
def k0_off6 (k0_t2 : Fin k0_t2_loop.trips) : Fin 1 → Nat :=
  let c0_i32_152 : BitVec 32 := 0#32
  let c1_i32_154 : BitVec 32 := 1#32
  let arg23 : BitVec 32 := Scf.iv c0_i32_152 c1_i32_154 k0_t2
  let c16_i32_317 : BitVec 32 := 16#32
  let v305 : BitVec 32 := Scalar.muli arg23 c16_i32_317
  let v306 : Index := Scalar.indexCast v305
  ![v306.toNat]
@[reducible] def k0_t3_loop : Scf.Loop 32 :=
  let c0_i32_301 : BitVec 32 := 0#32
  let c32_i32_302 : BitVec 32 := 32#32
  let v300 : BitVec 32 := Scalar.addi c0_i32_301 c32_i32_302
  let c1_i32_303 : BitVec 32 := 1#32
  ⟨c0_i32_301, v300, c1_i32_303⟩
def k0_off7 (k0_t3 : Fin k0_t3_loop.trips) : Fin 2 → Nat :=
  let c0_i32_317 : BitVec 32 := 0#32
  let v302 : Index := Scalar.indexCast c0_i32_317
  let c0_i32_301 : BitVec 32 := 0#32
  let c1_i32_303 : BitVec 32 := 1#32
  let arg23 : BitVec 32 := Scf.iv c0_i32_301 c1_i32_303 k0_t3
  let c16_i32 : BitVec 32 := 16#32
  let v301 : BitVec 32 := Scalar.muli arg23 c16_i32
  let v303 : Index := Scalar.indexCast v301
  ![0, v303.toNat]
def k0_off8 (k0_t3 : Fin k0_t3_loop.trips) : Fin 2 → Nat :=
  let c1_i32_320 : BitVec 32 := 1#32
  let v312 : Index := Scalar.indexCast c1_i32_320
  let c0_i32_301 : BitVec 32 := 0#32
  let c1_i32_303 : BitVec 32 := 1#32
  let arg23 : BitVec 32 := Scf.iv c0_i32_301 c1_i32_303 k0_t3
  let c16_i32 : BitVec 32 := 16#32
  let v301 : BitVec 32 := Scalar.muli arg23 c16_i32
  let v313 : Index := Scalar.indexCast v301
  ![1, v313.toNat]
def k0_off9 (k0_t3 : Fin k0_t3_loop.trips) : Fin 2 → Nat :=
  let c2_i32_323 : BitVec 32 := 2#32
  let v322 : Index := Scalar.indexCast c2_i32_323
  let c0_i32_301 : BitVec 32 := 0#32
  let c1_i32_303 : BitVec 32 := 1#32
  let arg23 : BitVec 32 := Scf.iv c0_i32_301 c1_i32_303 k0_t3
  let c16_i32 : BitVec 32 := 16#32
  let v301 : BitVec 32 := Scalar.muli arg23 c16_i32
  let v323 : Index := Scalar.indexCast v301
  ![2, v323.toNat]
def k0_off10 (k0_t3 : Fin k0_t3_loop.trips) : Fin 2 → Nat :=
  let c3_i32_326 : BitVec 32 := 3#32
  let v332 : Index := Scalar.indexCast c3_i32_326
  let c0_i32_301 : BitVec 32 := 0#32
  let c1_i32_303 : BitVec 32 := 1#32
  let arg23 : BitVec 32 := Scf.iv c0_i32_301 c1_i32_303 k0_t3
  let c16_i32 : BitVec 32 := 16#32
  let v301 : BitVec 32 := Scalar.muli arg23 c16_i32
  let v333 : Index := Scalar.indexCast v301
  ![3, v333.toNat]
def k0_off11 (k0_t3 : Fin k0_t3_loop.trips) : Fin 2 → Nat :=
  let c4_i32_329 : BitVec 32 := 4#32
  let v342 : Index := Scalar.indexCast c4_i32_329
  let c0_i32_301 : BitVec 32 := 0#32
  let c1_i32_303 : BitVec 32 := 1#32
  let arg23 : BitVec 32 := Scf.iv c0_i32_301 c1_i32_303 k0_t3
  let c16_i32 : BitVec 32 := 16#32
  let v301 : BitVec 32 := Scalar.muli arg23 c16_i32
  let v343 : Index := Scalar.indexCast v301
  ![4, v343.toNat]
def k0_off12 (k0_t3 : Fin k0_t3_loop.trips) : Fin 2 → Nat :=
  let c5_i32_332 : BitVec 32 := 5#32
  let v352 : Index := Scalar.indexCast c5_i32_332
  let c0_i32_301 : BitVec 32 := 0#32
  let c1_i32_303 : BitVec 32 := 1#32
  let arg23 : BitVec 32 := Scf.iv c0_i32_301 c1_i32_303 k0_t3
  let c16_i32 : BitVec 32 := 16#32
  let v301 : BitVec 32 := Scalar.muli arg23 c16_i32
  let v353 : Index := Scalar.indexCast v301
  ![5, v353.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x3 : Shape := ⟨2, ![16384, 3]⟩
abbrev S1000000x3 : Shape := ⟨2, ![1000000, 3]⟩
abbrev S26 : Shape := ⟨1, ![26]⟩
abbrev S16384 : Shape := ⟨1, ![16384]⟩
abbrev S16384x6 : Shape := ⟨2, ![16384, 6]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S1000000x3, .f32⟩
  | .hbm, ⟨3, _⟩ => ⟨S1000000x3, .f32⟩
  | .hbm, ⟨4, _⟩ => ⟨S26, .f32⟩
  | .hbm, ⟨5, _⟩ => ⟨S16384, .i32⟩
  | .hbm, ⟨6, _⟩ => ⟨S16384, .i32⟩
  | .hbm, ⟨7, _⟩ => ⟨S16384x6, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x3, .f32⟩
  | .hbm, ⟨27, _⟩ => ⟨S16384x3, .i1⟩
  | .hbm, ⟨28, _⟩ => ⟨S_, .f32⟩
  | .hbm, ⟨29, _⟩ => ⟨S16384x3, .f32⟩
  | .hbm, ⟨30, _⟩ => ⟨S16384x3, .f32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x3, .f32⟩
  | .hbm, ⟨50, _⟩ => ⟨S16384x3, .i1⟩
  | .hbm, ⟨51, _⟩ => ⟨S_, .f32⟩
  | .hbm, ⟨52, _⟩ => ⟨S16384x3, .f32⟩
  | .hbm, ⟨53, _⟩ => ⟨S16384x3, .f32⟩
  | .hbm, ⟨54, _⟩ => ⟨S16384x6, .f32⟩
  | .hbm, ⟨55, _⟩ => ⟨S16384x6, .f32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S1, .i32⟩
  | .hbm, ⟨65, _⟩ => ⟨S_, .i32⟩
  | .hbm, ⟨66, _⟩ => ⟨S16384x1, .i32⟩
  | .hbm, ⟨67, _⟩ => ⟨S16384x1, .i1⟩
  | .hbm, ⟨68, _⟩ => ⟨S1x1, .i32⟩
  | .hbm, ⟨69, _⟩ => ⟨S16384x1, .i32⟩
  | .hbm, ⟨70, _⟩ => ⟨S16384x1, .i1⟩
  | .hbm, ⟨71, _⟩ => ⟨S16384x1, .i1⟩
  | .hbm, ⟨72, _⟩ => ⟨S_, .i1⟩
  | .hbm, ⟨73, _⟩ => ⟨S16384, .i1⟩
  | .hbm, ⟨74, _⟩ => ⟨S16384, .f32⟩
  | .hbm, ⟨75, _⟩ => ⟨S_, .f32⟩
  | .hbm, ⟨76, _⟩ => ⟨S16384, .f32⟩
  | .hbm, ⟨77, _⟩ => ⟨S16384, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v5 : Ref sig .tc := ⟨.hbm, 77, rfl⟩

abbrev nD : Nat := 1
abbrev τ : Topo := Topo.v7x

variable {F : FTy → Type} [FloatOps F]
-- ==== Proof.Streams.lean ====
/-
  Several indirect gathers outstanding on ONE DMA semaphore. A gather of `o` rows is, to the semaphore, `o` ordinary
  transfers of one row each; when every row counts the same number of units, a whole family of gathers is one counted
  batch of rows. This file states what a row hands back, how a gather is issued into a batch whose next `o` transfers
  are its rows, and how the rows of one gather, all back, make up its destination, its source and its list again.
-/
module

public import Idealize.ShloMosaic.Lib.SparseCore.Stream
public import Idealize.ShloMosaic.Lib.Batch

@[expose] public section

noncomputable section

namespace Cert.Proof.Streams

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-! ## Taking the next transfers of a batch -/

/-- What is pending from transfer `k` on is the next `o` transfers and what is pending after them. -/
theorem pending_take {n : ℕ} (Φ : Fin n → sProp 𝕄) : ∀ (o k : ℕ) (h : k + o ≤ n),
    bigSep (Transfers.pending k) Φ
      ⊢ iprop((bigSep Finset.univ fun j : Fin o => Φ ⟨k + j.val, by omega⟩) ∗ bigSep (Transfers.pending (k + o)) Φ)
  | 0, _, _ => by
    rw [Finset.univ_eq_empty, BI.bigSep_empty]
    exact emp_sep.2
  | o + 1, k, h => by
    rw [Transfers.bigSep_pending_step Φ k (by omega), bigSep_univ_succ, show k + (o + 1) = k + 1 + o by omega]
    iintro ⟨HA, HB⟩
    ihave HB := (pending_take Φ o (k + 1) (by omega)) $$ HB
    icases HB with ⟨HB, HC⟩
    isplitl [HA HB]
    · isplitl [HA]; · iapply (Entails.of_eq (congrArg Φ (Fin.ext (Nat.add_zero k).symm))) $$ HA
      iapply (Entails.of_eq (BI.bigSep_congr fun j _ => by congr 2; simp; omega)) $$ HB
    · iexact HC

/-! ## A row of a gather, handed back -/

section Row

variable (c : Thread nD τ) {sp : Space} {s₀ s si : Shape} {e : EltTy} {a : Nat}

/-- The index of the list at which entry `j` stands. -/
def entryIdx {o : ℕ} (hn : si.numel = o) (j : Fin o) : si.Idx := si.rowMajor.symm (j.cast hn.symm)

/-- The entries of an index list are numbered one to one. -/
theorem entryIdx_bijective {o : ℕ} (hn : si.numel = o) : Function.Bijective (entryIdx (si := si) hn) :=
  si.rowMajor.symm.bijective.comp (finCongr hn.symm).bijective

/-- What row `j` of a gather hands back once it has landed: its row of the destination, written with the row of the
    source that entry `j` names; the entry's element of the list; the row's piece of the source's share. -/
def rowBack (src : Memref sig c.2.kind sp s₀ e) (dst : Memref sig c.2.kind .vmem s e) (hg : s₀.Gathers a s)
    (offs : Memref sig c.2.kind .vmem si .i32) (hn : si.numel = s.size hg.axis') (hs : 0 < s.numel) (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ))
      ∗ (offs.view.loc c ↦[{offs.view.emb (entryIdx hn j)}]{qo} fo))
    ∗ (src.view.loc c ↦[src.view.set]{pieceOf q _ (Shape.size_pos_of_numel_pos hs _) j} fs))

/-- The rows of one gather, all handed back, are its destination written with the gathered rows, and the shares of its
    source and of its list whole again. -/
theorem rowBack_join (src : Memref sig c.2.kind sp s₀ e) (dst : Memref sig c.2.kind .vmem s e) (hg : s₀.Gathers a s)
    (offs : Memref sig c.2.kind .vmem si .i32) (hn : si.numel = s.size hg.axis') (hs : 0 < s.numel) (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) :
    (bigSep Finset.univ (rowBack c src dst hg offs hn hs q qo fs fd fo hin) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold rowBack
  iintro H
  ihave H := Transfers.bigSep_sep_out _ _ _ $$ H
  icases H with ⟨H, Hsrc⟩
  ihave H := Transfers.bigSep_sep_out _ _ _ $$ H
  icases H with ⟨Hdst, Hoffs⟩
  isplitl [Hdst]
  · have hrows := pointsTo_rows_write (Ix := Ix) (Name := Name) (U := U) (Lvl := Lvl) c dst.view hg.axis' fd
        (fun j i => src.view.read (Elt F) fs (hg.rowIdx (rows (offs.view.read (Elt F) fo) hn hin j) i))
        (gatherPayload hg (src.view.read (Elt F) fs) (rows (offs.view.read (Elt F) fo) hn hin))
        fun j i => by unfold gatherPayload; rw [Shape.Gathers.idx_rowRect_emb]
    iapply (show (bigSep Finset.univ fun j : Fin (s.size hg.axis') => (dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ)) : sProp 𝕄)
        ⊢ _ from hrows) $$ Hdst
  isplitl [Hsrc]
  · iapply (Entails.of_eq (pointsTo_piecesOf (src.view.set) fs (Shape.size_pos_of_numel_pos hs _) q).symm) $$ Hsrc
  · iapply (Entails.of_eq (pointsTo_entries c offs.view (entryIdx hn) (entryIdx_bijective hn) qo fo).symm) $$ Hoffs

end Row

/-! ## Issuing a gather into a batch -/

section Issue

variable [Preorder Lvl] {Λ : Labels} {defs : Defs nD τ sig (Elt F) Λ} (EC : UEmb Counters (MT nD τ sig Ix (Elt F) Name U Lvl))
variable (𝒱 : Variants) (c : Thread nD τ) (bd : Option 𝒱.V)
variable {sp : Space} {s₀ s si : Shape} {e : EltTy} {a : Nat} {α : Type} {Q : α → sProp (MT nD τ sig Ix (Elt F) Name U Lvl)}

/-- A gather issued while its semaphore's batch has `k` transfers out: holding a share of the source, the destination
    outright, a share of the list whose every word is in range, and a batch of row transfers of `N` units whose next
    transfers take what the gather's rows hand back (`hD`), the tile continues with the batch advanced by the rows. -/
theorem wp_gather_batch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    {n : ℕ} {D : Fin n → sProp 𝕄} {k u : ℕ} (hk : k + s.size hg.axis' ≤ n) (hu : u ≤ k * N)
    (hD : ∀ j : Fin (s.size hg.axis'), rowBack c src dst hg offs hn hs q qo fs fd fo hin j ⊢ D ⟨k + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k u)
      ⊢ iprop((Transfers.Batch EC c (.dma sem) ι N D (k + s.size hg.axis') u -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  have ho : 0 < s.size hg.axis' := Shape.size_pos_of_numel_pos hs _
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hsame : S.RowsAgree := by
    rintro j x x' ρ ρ' h h'
    obtain ⟨_, -, rfl⟩ := Option.map_eq_some_iff.mp h
    obtain ⟨_, -, rfl⟩ := Option.map_eq_some_iff.mp h'
    rfl
  have hrow : ∀ j, S.row j (S.word fo j) = some (rd j) := fun j => by
    show (rowOf (s₀.size hg.axis) (offs.view.read (Elt F) fo (S.entry j))).map _ = _
    rw [rowOf_of_lt (hin _)]; rfl
  have hsum : ∑ j, (rd j).dst.view.dmaCredit = s.size hg.axis' * N := sum_rowCredit_eq _ hN rfl
  unfold Transfers.Batch
  iintro ⟨Hs, Hd, Ho, ⟨%γ, %γ₀, %κ, #Hinv, HI, H0, Hcred⟩⟩ Hk
  ihave HI := (pending_take (fun t => Idealize.SL.ExclCount.count EC (γ t) 0) (s.size hg.axis') k hk) $$ HI
  icases HI with ⟨Hnow, HI⟩
  ihave Hd := (Entails.of_eq (pointsTo_rows c dst.view hg.axis' fullShare fd)) $$ Hd
  ihave Ho := (Entails.of_eq (pointsTo_entries c offs.view (entryIdx hn) (entryIdx_bijective hn) qo fo)) $$ Ho
  ihave Hs := (Entails.of_eq (pointsTo_piecesOf (src.view.set) fs ho q)) $$ Hs
  iapply (wp_enqueueIndirectDma 𝒱 c bd Set.univ (qo := qo) (fo := fo) (rd := rd) ι (s.size hg.axis' * N) hsame hrow hsum) $$ [Hd Ho Hs Hnow]
  · have hone : ∀ j : Fin (s.size hg.axis'), iprop(inv κ (Transfers.batchBody EC (c, SemLoc.dma sem) N D γ γ₀)
          ∗ ((((dst.view.loc c ↦[(dst.view.slice (s.rowRect hg.axis' j)).set]{fullShare} fd)
              ∗ (offs.view.loc c ↦[{offs.view.emb (entryIdx hn j)}]{qo} fo))
            ∗ (src.view.loc c ↦[src.view.set]{pieceOf q _ ho j} fs)) ∗ Idealize.SL.ExclCount.count EC (γ ⟨k + j.val, by omega⟩) 0))
        ⊢ iprop(S.heldEntry qo fo j ∗ (S.heldEntry qo fo j -∗ rowRes c (rd j))) := fun j => by
      iintro ⟨#Hinv, ⟨⟨Hrow, He⟩, Hp⟩, Hc⟩
      isplitl [He]; · iexact He
      iintro He
      unfold rowRes
      iexists pieceOf q _ ho j, fs, iprop((dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ))
        ∗ S.heldEntry qo fo j)
      isplitl [Hp]; · iexact Hp
      isplitl [Hrow He]
      · iapply writeUpdate_frame
        isplitl [Hrow]
        · iapply (pointsTo_writeUpdate c (v := dst.view.slice (s.rowRect hg.axis' j)) subset_rfl) $$ Hrow
        · iexact He
      · rw [show (rd j).dst.view.amount (.dma sem) = N from hN j]
        iapply (Transfers.batch_creditUpdate EC ⟨k + j.val, by omega⟩ (hD j))
        isplitr; · iexact Hinv
        iexact Hc
    unfold Stream.res
    ihave H := Transfers.bigSep_sep_in _ _ _ $$ [Hd Ho]; · isplitl [Hd] <;> iassumption
    ihave H := Transfers.bigSep_sep_in _ _ _ $$ [H Hs]; · isplitl [H] <;> iassumption
    ihave H := Transfers.bigSep_sep_in _ _ _ $$ [H Hnow]; · isplitl [H] <;> iassumption
    iapply (Transfers.bigSep_mono_pers Finset.univ _ _ _ fun j _ => hone j)
    isplitr; · iexact Hinv
    iexact H
  iintro Hnew
  iapply Hk
  iexists γ, γ₀, κ
  isplitr; · iexact Hinv
  isplitl [HI]; · iexact HI
  isplitl [H0]; · iexact H0
  rw [show (k + s.size hg.axis') * N - u = (k * N - u) + s.size hg.axis' * N by rw [Nat.add_mul]; omega, ← tallyAt_add]
  icombine Hcred Hnew as H
  iexact H

end Issue

/-! ## A family of gathers on one semaphore -/

/-- `M` gathers of one shape out of one source, each into its own destination by its own list: the memrefs, the shares
    held of the source and of the lists, the contents, and that every word of every list names a row of the source. -/
structure Fam (F : FTy → Type) (c : Thread nD τ) (sp : Space) (s₀ s si : Shape) (e : EltTy) (a M : Nat) where
  src : Memref sig c.2.kind sp s₀ e
  dst : Fin M → Memref sig c.2.kind .vmem s e
  hg : s₀.Gathers a s
  offs : Fin M → Memref sig c.2.kind .vmem si .i32
  hn : si.numel = s.size hg.axis'
  hs : 0 < s.numel
  q : Fin M → PosShare TreeShare
  qo : PosShare TreeShare
  fs : Buf (Elt F) (src.view.loc c)
  fd : ∀ i, Buf (Elt F) ((dst i).view.loc c)
  fo : ∀ i, Buf (Elt F) ((offs i).view.loc c)
  hin : ∀ i x, ((offs i).view.read (Elt F) (fo i) x).toNat < s₀.size hg.axis

namespace Fam

variable {c : Thread nD τ} {sp : Space} {s₀ s si : Shape} {e : EltTy} {a M : Nat}

/-- The number of rows of each gather. -/
abbrev o (G : Fam (sig := sig) F c sp s₀ s si e a M) : ℕ := s.size G.hg.axis'

/-- What gather `i` takes: its share of the source, its destination, its list. -/
def args (G : Fam (sig := sig) F c sp s₀ s si e a M) (i : Fin M) : sProp 𝕄 :=
  iprop((G.src.view.loc c ↦[G.src.view.set]{G.q i} G.fs) ∗ ((G.dst i).view.loc c ↦[(G.dst i).view.set]{fullShare} G.fd i)
    ∗ ((G.offs i).view.loc c ↦[(G.offs i).view.set]{G.qo} G.fo i))

/-- What gather `i` hands back: its destination written with the gathered rows, its share of the source, its list. -/
def back (G : Fam (sig := sig) F c sp s₀ s si e a M) (i : Fin M) : sProp 𝕄 :=
  iprop(((G.dst i).view.loc c ↦[(G.dst i).view.set]{fullShare} ((G.dst i).view.write (Elt F) (G.fd i)
        (gatherPayload G.hg (G.src.view.read (Elt F) G.fs) (rows ((G.offs i).view.read (Elt F) (G.fo i)) G.hn (G.hin i))) Finset.univ))
    ∗ (G.src.view.loc c ↦[G.src.view.set]{G.q i} G.fs) ∗ ((G.offs i).view.loc c ↦[(G.offs i).view.set]{G.qo} G.fo i))

/-- What row `j` of gather `i` hands back. -/
def row (G : Fam (sig := sig) F c sp s₀ s si e a M) (i : Fin M) (j : Fin G.o) : sProp 𝕄 :=
  rowBack c G.src (G.dst i) G.hg (G.offs i) G.hn G.hs (G.q i) G.qo G.fs (G.fd i) (G.fo i) (G.hin i) j

/-- The deliveries of the batch: the rows of gather 0, then those of gather 1, and so on. -/
def deliv (G : Fam (sig := sig) F c sp s₀ s si e a M) (t : Fin (M * G.o)) : sProp 𝕄 := G.row t.divNat t.modNat

/-- A row of a stream may be kept in the ghost state. -/
instance row_storable (G : Fam (sig := sig) F c sp s₀ s si e a M) (i : Fin M) (j : Fin G.o) :
    Storable (upEmb : UEmb _ 𝕄) (G.row (Name := Name) (U := U) (Ix := Ix) (Lvl := Lvl) i j) := by
  unfold row rowBack; infer_instance

/-- A delivery may be kept in the ghost state. -/
instance deliv_storable (G : Fam (sig := sig) F c sp s₀ s si e a M) (t : Fin (M * G.o)) :
    Storable (upEmb : UEmb _ 𝕄) (G.deliv (Name := Name) (U := U) (Ix := Ix) (Lvl := Lvl) t) := by
  unfold deliv; infer_instance

/-- The delivery with a given number is the row of that number. -/
theorem deliv_at (G : Fam (sig := sig) F c sp s₀ s si e a M) (i : Fin M) (j : Fin G.o) (h : i.val * G.o + j.val < M * G.o) :
    (G.deliv ⟨i.val * G.o + j.val, h⟩ : sProp 𝕄) = G.row i j := by
  have e : (⟨i.val * G.o + j.val, h⟩ : Fin (M * G.o)) = finProdFinEquiv (i, j) := Fin.ext (by simp [finProdFinEquiv]; rw [Nat.mul_comm, Nat.add_comm])
  unfold deliv
  rw [e]
  have h2 := finProdFinEquiv.symm_apply_apply (i, j)
  simp only [finProdFinEquiv_symm_apply, Prod.mk.injEq] at h2
  rw [h2.1, h2.2]

/-- All the rows of all the gathers, handed back, are all that the gathers hand back. -/
theorem deliv_join (G : Fam (sig := sig) F c sp s₀ s si e a M) :
    (bigSep Finset.univ G.deliv : sProp 𝕄) ⊢ bigSep Finset.univ G.back := by
  rw [BI.bigSep_univ_equiv finProdFinEquiv, BI.bigSep_univ_prod]
  refine BI.bigSep_mono fun i _ => ?_
  refine Entails.trans (Entails.of_eq (BI.bigSep_congr fun j _ => ?_)) (rowBack_join c G.src (G.dst i) G.hg (G.offs i) G.hn G.hs (G.q i) G.qo G.fs (G.fd i) (G.fo i) (G.hin i))
  have h2 := finProdFinEquiv.symm_apply_apply (i, j)
  simp only [finProdFinEquiv_symm_apply, Prod.mk.injEq] at h2
  unfold deliv row
  rw [h2.1, h2.2]

section Rules

variable [Preorder Lvl] {Λ : Labels} {defs : Defs nD τ sig (Elt F) Λ} (EC : UEmb Counters (MT nD τ sig Ix (Elt F) Name U Lvl))
variable (𝒱 : Variants) (bd : Option 𝒱.V) {α : Type} {Q : α → sProp (MT nD τ sig Ix (Elt F) Name U Lvl)}

/-- The family with its first `k` gathers issued and `u` units waited for: what the others take, and the batch. -/
def issued (G : Fam (sig := sig) F c sp s₀ s si e a M) (sem : DmaSem sig) (ι : Ix) (N k u : ℕ) : sProp 𝕄 :=
  iprop(bigSep (Transfers.pending k) G.args ∗ Transfers.Batch EC c (.dma sem) ι N G.deliv (k * G.o) u)

/-- From the semaphore at zero and what all the gathers take, the family with none issued. -/
theorem issued_start [Infinite Name] [EC.LandsIn (upEmb : UEmb _ 𝕄)] (G : Fam (sig := sig) F c sp s₀ s si e a M) (sem : DmaSem sig)
    (ι : Ix) (N : ℕ) :
    iprop(bigSep Finset.univ G.args ∗ semVal (c, .dma sem) 0) ⊢ (|={Set.univ}=> G.issued EC sem ι N 0 0 : sProp 𝕄) := by
  iintro ⟨HA, Hv⟩
  imod (Transfers.batch_alloc' EC c ι N G.deliv (E := Set.univ)) $$ Hv with HB
  imodintro
  unfold issued
  rw [Transfers.pending_zero, Nat.zero_mul]
  isplitl [HA]; · iexact HA
  iexact HB

/-- Issuing the next gather of the family. -/
theorem wp_issue [Infinite Name] [EC.LandsIn (upEmb : UEmb _ 𝕄)] (G : Fam (sig := sig) F c sp s₀ s si e a M) {sem : DmaSem sig}
    {ι : Ix} {N : ℕ} (i : Fin M)
    (hN : ∀ j, ((G.dst i).slice (s.rowRect G.hg.axis' j) (s.stride_rowRect G.hg.axis' j)).view.dmaCredit = N)
    {src : Memref sig c.2.kind sp s₀ e} {dst : Memref sig c.2.kind .vmem s e} {hg : s₀.Gathers a s}
    {offs : Memref sig c.2.kind .vmem si .i32} {hn : si.numel = s.size hg.axis'}
    (hsrcE : src = G.src) (hdstE : dst = G.dst i) (hoffsE : offs = G.offs i)
    {hp : c.2.kind = .scVector} {hsrc : src.view.WordExact} {he : e.bits = 32} {hsp : sp = .hbm ∨ sp = .shared} {hr : s₀.StreamRows a}
    {kont : PUnit → Prog (TpuEff nD τ sig (Elt F) Λ c.2) α} :
    iprop(G.issued EC sem ι N i.val 0)
      ⊢ iprop((G.issued EC sem ι N (i.val + 1) 0 -∗ wp frame (wpE defs 𝒱 c bd) Set.univ (kont ⟨⟩) Q)
          -∗ wp frame (wpE defs 𝒱 c bd) Set.univ (enqueueIndirectGather hp src dst hg offs hn sem hsrc he hsp hr >>= kont) Q) := by
  subst hsrcE hdstE hoffsE
  have hle : i.val * G.o + G.o ≤ M * G.o := by rw [← Nat.succ_mul]; exact Nat.mul_le_mul_right _ i.isLt
  unfold issued
  rw [Transfers.bigSep_pending_step G.args i.val i.isLt]
  unfold args
  iintro ⟨⟨⟨Hs, Hd, Ho⟩, HA⟩, HB⟩ Hk
  iapply (wp_gather_batch EC 𝒱 c bd (hg := G.hg) (hn := G.hn) ι N hN G.hs (G.hin i) (k := i.val * G.o) hle (Nat.zero_le _)
    fun j => Entails.of_eq (G.deliv_at i j _).symm) $$ [Hs Hd Ho HB]
  · isplitl [Hs]; · iexact Hs
    isplitl [Hd]; · iexact Hd
    isplitl [Ho]; · iexact Ho
    iexact HB
  iintro HB
  iapply Hk
  isplitl [HA]; · iexact HA
  rw [Nat.succ_mul]
  iexact HB

/-- Waiting for one gather's units once all are issued: nothing is handed back yet. -/
theorem wp_wait [EC.LandsIn (upEmb : UEmb _ 𝕄)] (G : Fam (sig := sig) F c sp s₀ s si e a M) {sem : DmaSem sig} {ι : Ix} {N : ℕ} (k : ℕ)
    (hk : k < M) {sp₁ : Space} {s₁ s₂ : Shape} {e₁ : EltTy}
    {src : Memref sig c.2.kind sp₁ s₁ e₁} {dst : Memref sig c.2.kind .vmem s₂ e₁} {hsrc : src.view.WordExact} {hdst : dst.view.WordExact}
    (hJ : dst.view.dmaCredit = G.o * N) {O : CellTallies nD τ sig Ix} {W : Waits sig Ix}
    {kont : PUnit → Prog (TpuEff nD τ sig (Elt F) Λ c.2) α} :
    iprop(G.issued EC sem ι N M (k * G.o * N) ∗ owes c O W ∗ MayWait c (.dma sem) ι O)
      ⊢ iprop((iprop(G.issued EC sem ι N M ((k + 1) * G.o * N) ∗ owes c O (insert (SemLoc.dma sem, ι) W))
            -∗ wp frame (wpE defs 𝒱 c bd) Set.univ (kont ⟨⟩) Q)
          -∗ wp frame (wpE defs 𝒱 c bd) Set.univ (waitIndirectGather sem src dst hsrc hdst >>= kont) Q) := by
  have hle : k * G.o * N + G.o * N ≤ N * (M * G.o) := by
    rw [Nat.mul_comm N, ← Nat.add_mul, ← Nat.succ_mul]
    exact Nat.mul_le_mul_right _ (Nat.mul_le_mul_right _ hk)
  rw [waitIndirectGather_bind, show (k + 1) * G.o * N = k * G.o * N + G.o * N by rw [Nat.succ_mul, Nat.add_mul]]
  unfold issued
  iintro ⟨⟨HA, HB⟩, HO, HM⟩ Hk
  iapply (Transfers.wp_waitBatchMulO EC 𝒱 c bd ι G.o hJ hle) $$ [HB HO HM]
  · isplitl [HB]; · iexact HB
    isplitl [HO]; · iexact HO
    iexact HM
  iintro ⟨HB, HO⟩
  iapply Hk
  isplitl [HA HB]
  · isplitl [HA]; · iexact HA
    iexact HB
  iexact HO

/-- Every gather issued and every unit waited for: all that the gathers hand back, and the semaphore at zero. -/
theorem issued_end [EC.LandsIn (upEmb : UEmb _ 𝕄)] (G : Fam (sig := sig) F c sp s₀ s si e a M) {sem : DmaSem sig} {ι : Ix} {N : ℕ}
    (hN : 0 < N) :
    G.issued EC sem ι N M (M * G.o * N) ⊢ (|={Set.univ}=> iprop(bigSep Finset.univ G.back ∗ semVal (c, .dma sem) 0) : sProp 𝕄) := by
  unfold issued
  iintro ⟨-, HB⟩
  rw [Nat.mul_comm _ N]
  imod (Transfers.batch_collect' EC c hN) $$ HB with ⟨HD, Hv⟩
  imodintro
  isplitl [HD]
  · iapply G.deliv_join $$ HD
  · iexact Hv

end Rules

end Fam

end Cert.Proof.Streams
-- ==== Proof.Setup.lean ====
/-
  The launch as its proof sees it: the machine's configuration and ghost state, the kernel's buffers by name, the parts
  of its body, and the semaphores and scratch buffers that a tile owns, one by one.
-/
module

public import proofs.«01_k».proof.Defs
public import proofs.«01_k».proof.Proof.Streams
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index
public import Idealize.ShloMosaic.Lib.Writes
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the call's set-up. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The buffers that the body is given -/

/-- The first camera table, flat. -/
abbrev tabA : Memref sig .scVector .hbm S4001792 .f32 := Memref.whole main_v4_scv
/-- The second camera table, flat. -/
abbrev tabB : Memref sig .scVector .hbm S4001792 .f32 := Memref.whole main_v9_scv
/-- The first linear term, one row of 16384 per component. -/
abbrev linA : Memref sig .scVector .hbm S49152 .f32 := Memref.whole main_v11_scv
/-- The second linear term, likewise. -/
abbrev linB : Memref sig .scVector .hbm S49152 .f32 := Memref.whole main_v13_scv
/-- The time-to-collision table. -/
abbrev ttcH : Memref sig .scVector .hbm S26 .f32 := Memref.whole main_arg4_scv
/-- The camera indices. -/
abbrev camH : Memref sig .scVector .hbm S128x128 .i32 := Memref.whole main_v14_scv
/-- The sensor indices. -/
abbrev senH : Memref sig .scVector .hbm S16384 .i32 := Memref.whole main_arg6_scv
/-- The six component rows out. -/
abbrev outH : Memref sig .scVector .hbm S6x16384 .f32 := Memref.whole main_v15_0_scv
/-- The time-to-collision values out. -/
abbrev ttoH : Memref sig .scVector .hbm S16384 .f32 := Memref.whole main_v15_1_scv
/-- The tile's camera indices. -/
abbrev camV : Memref sig .scVector .vmem S4x128 .i32 := Memref.whole cc0_scratch0
/-- The positions of component 0 in a flat table. -/
abbrev posV0 : Memref sig .scVector .vmem S4x128 .i32 := Memref.whole cc0_scratch1
/-- The positions of component 1. -/
abbrev posV1 : Memref sig .scVector .vmem S4x128 .i32 := Memref.whole cc0_scratch2
/-- The positions of component 2. -/
abbrev posV2 : Memref sig .scVector .vmem S4x128 .i32 := Memref.whole cc0_scratch3
/-- The tile's sensor indices. -/
abbrev senV : Memref sig .scVector .vmem S512 .i32 := Memref.whole cc0_scratch4
/-- The gathered values. -/
abbrev gatV : Memref sig .scVector .vmem S6x512 .f32 := Memref.whole cc0_scratch5
/-- The linear terms. -/
abbrev linV : Memref sig .scVector .vmem S6x512 .f32 := Memref.whole cc0_scratch6
/-- The sums. -/
abbrev outV : Memref sig .scVector .vmem S6x512 .f32 := Memref.whole cc0_scratch7
/-- The time-to-collision values. -/
abbrev ttoV : Memref sig .scVector .vmem S512 .f32 := Memref.whole cc0_scratch8
/-- The time-to-collision table. -/
abbrev ttcV : Memref sig .scVector .vmem S26 .f32 := Memref.whole cc0_scratch9

section Parts

variable [FloatOps F]

/-- Part 3 of the body at grid point `L`, on the launch's buffers and semaphores. -/
abbrev part3 (L : grid0.Coords) :=
  k0_part3 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 4 of the body at grid point `L`, on the launch's buffers and semaphores. -/
abbrev part4 (L : grid0.Coords) :=
  k0_part4 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 5 of the body at grid point `L`, on the launch's buffers and semaphores. -/
abbrev part5 (L : grid0.Coords) :=
  k0_part5 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 6 of the body at grid point `L`, on the launch's buffers and semaphores. -/
abbrev part6 (L : grid0.Coords) :=
  k0_part6 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 7 of the body at grid point `L`, on the launch's buffers and semaphores. -/
abbrev part7 (L : grid0.Coords) :=
  k0_part7 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 8 of the body at grid point `L`, on the launch's buffers and semaphores. -/
abbrev part8 (L : grid0.Coords) (v : BitVec 32) :=
  k0_part8 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 v
/-- Part 9 of the body at grid point `L`, on the launch's buffers and semaphores. -/
abbrev part9 (L : grid0.Coords) (v : BitVec 32) :=
  k0_part9 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 v
/-- Part 10 of the body at grid point `L`, on the launch's buffers and semaphores. -/
abbrev part10 (L : grid0.Coords) (v : BitVec 32) :=
  k0_part10 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 v
/-- Part 11 of the body at grid point `L`, on the launch's buffers and semaphores. -/
abbrev part11 (L : grid0.Coords) :=
  k0_part11 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 12 of the body at grid point `L`, on the launch's buffers and semaphores. -/
abbrev part12 (L : grid0.Coords) :=
  k0_part12 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 13 of the body at grid point `L`, on the launch's buffers and semaphores. -/
abbrev part13 (L : grid0.Coords) :=
  k0_part13 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 14 of the body at grid point `L`, on the launch's buffers and semaphores. -/
abbrev part14 (L : grid0.Coords) :=
  k0_part14 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 15 of the body at grid point `L`, on the launch's buffers and semaphores. -/
abbrev part15 (L : grid0.Coords) :=
  k0_part15 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 16 of the body at grid point `L`, on the launch's buffers and semaphores. -/
abbrev part16 (L : grid0.Coords) :=
  k0_part16 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 17 of the body at grid point `L`, on the launch's buffers and semaphores. -/
abbrev part17 (L : grid0.Coords) :=
  k0_part17 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- Part 18 of the body at grid point `L`, on the launch's buffers and semaphores. -/
abbrev part18 (L : grid0.Coords) :=
  k0_part18 (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
/-- The body at grid point `L`, on the launch's buffers and semaphores. -/
abbrev body (L : grid0.Coords) :=
  cc0__body (F := F) L tabA (Memref.isWhole_whole _) tabB (Memref.isWhole_whole _) linA (Memref.isWhole_whole _) linB (Memref.isWhole_whole _) ttcH (Memref.isWhole_whole _) camH (Memref.isWhole_whole _) senH (Memref.isWhole_whole _) outH (Memref.isWhole_whole _) ttoH (Memref.isWhole_whole _) camV (Memref.isWhole_whole _) posV0 (Memref.isWhole_whole _) posV1 (Memref.isWhole_whole _) posV2 (Memref.isWhole_whole _) senV (Memref.isWhole_whole _) gatV (Memref.isWhole_whole _) linV (Memref.isWhole_whole _) outV (Memref.isWhole_whole _) ttoV (Memref.isWhole_whole _) ttcV (Memref.isWhole_whole _) cc0_scratch10 cc0_scratch11 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15

end Parts

/-! ## A tile's place -/

abbrev cV (L : grid0.Coords) : Fin τ.nSC := (L 0).castLE hcore0
abbrev jV (L : grid0.Coords) : Fin τ.nSub := (L 1).castLE hsub0
/-- The thread of the tile at grid point `L` on device `d`. -/
abbrev thr (d : Dev nD) (L : grid0.Coords) : Thread nD τ := V d (cV L) (jV L)

/-! ## The tile's own semaphores and scratch buffers, one by one -/

/-- The members of `l` taken out of `S` in turn, each its `Φ`, then what is left of `S`. -/
def peel {I : Type} [DecidableEq I] (Φ : I → sProp 𝕄) : List I → Finset I → sProp 𝕄
  | [], S => bigSep S Φ
  | x :: l, S => iprop(Φ x ∗ peel Φ l (S.erase x))

/-- A conjunction over a finite set, with the members of a list taken out one by one. -/
theorem bigSep_peel {I : Type} [DecidableEq I] (Φ : I → sProp 𝕄) : ∀ (l : List I) (S : Finset I), l.Nodup → (∀ x ∈ l, x ∈ S) →
    bigSep S Φ = peel Φ l S
  | [], _, _, _ => rfl
  | x :: l, S, hl, hS => by
    rw [peel, ← bigSep_peel Φ l (S.erase x) (List.nodup_cons.mp hl).2 fun y hy =>
      Finset.mem_erase.mpr ⟨fun e => (List.nodup_cons.mp hl).1 (e ▸ hy), hS y (List.mem_cons_of_mem _ hy)⟩]
    exact SparseCore.bigSep_erase' (hS x List.mem_cons_self)

/-- The tile's DMA semaphores: the two that the gathers signal, then those of the plain copies. -/
def semList : List (DmaSem sig) :=
  [cc0_scratch10.sem, cc0_scratch11.sem, cc0_scoped0.sem, cc0_scoped1.sem, cc0_scoped2.sem, cc0_scoped3.sem, cc0_scoped4.sem,
    cc0_scoped5.sem, cc0_scoped6.sem, cc0_scoped7.sem, cc0_scoped8.sem, cc0_scoped9.sem, cc0_scoped10.sem, cc0_scoped11.sem,
    cc0_scoped12.sem, cc0_scoped13.sem, cc0_scoped14.sem, cc0_scoped15.sem]

/-- The tile's scratch buffers. -/
def bufList : List (Ref sig .scVector) :=
  [cc0_scratch0, cc0_scratch1, cc0_scratch2, cc0_scratch3, cc0_scratch4, cc0_scratch5, cc0_scratch6, cc0_scratch7, cc0_scratch8, cc0_scratch9]

variable (d : Dev nD) (L : grid0.Coords)

/-- The semaphores of a tile, at zero, spelt out. -/
theorem ownSems0_V :
    (ownSems0 (thr d L) : sProp 𝕄)
      = peel (fun g => semVal g 0) (semList.map fun s => ((thr d L, SemLoc.dma s) : GSem nD τ sig)) (ownCells (thr d L)) := by
  unfold SparseCore.Cfg.ownSems0
  refine bigSep_peel _ _ _ (List.Nodup.map (fun s s' h => ?_) (by decide)) fun x hx => ?_
  · exact SemLoc.dma.inj (Prod.mk.inj h).2
  · obtain ⟨s, hs, rfl⟩ := List.mem_map.mp hx
    exact mem_ownCells.mpr ⟨rfl, (by decide : ∀ s ∈ semList, (SemLoc.dma s : SemLoc sig).isScoped .scVector = true) s hs⟩

/-- The scratch buffers of a tile, spelt out. -/
theorem ownBufs_V :
    (ownBufs (thr d L) : sProp 𝕄)
      = peel (fun b => iprop(∃ f, ((d, b) : Loc nD τ sig) ↦{fullShare} f)) (bufList.map (Proc.scVector (cV L) (jV L)).devRef)
          (ownRefs (τ := τ) (.scVector (cV L) (jV L))) := by
  unfold SparseCore.Cfg.ownBufs
  refine bigSep_peel _ _ _ (List.Nodup.map (Proc.devRef_injective _) (by decide : List.Nodup (bufList : List (Ref sig .scVector)))) fun x hx => ?_
  obtain ⟨b, hb, rfl⟩ := List.mem_map.mp hx
  refine SparseCore.Cfg.mem_ownRefs_of_owner ?_
  simp only [bufList, List.mem_cons, List.not_mem_nil, _root_.or_false] at hb
  rcases hb with rfl | rfl | rfl | rfl | rfl | rfl | rfl | rfl | rfl | rfl <;> rfl

/-- What a tile owes, its recorded waits grown only by waits that no round of the launch's handshake answers. -/
def owed (O : CellTallies nD τ sig (HIx 1)) (W : Waits sig (HIx 1)) : sProp 𝕄 :=
  iprop(∃ W', ⌜∀ p ∈ W', p ∈ W ∨ p.2 = none⌝ ∗ owes (thr d L) O W')

end Cert.Proof.Tile
-- ==== Proof.Values.lean ====
/-
  What the kernel computes, as functions of the arrays that its call reads: the position of a camera's component in a
  flat table, the values that a tile holds in its scratch buffers, and the two results.
-/
module

public import proofs.«01_k».proof.Proof.Setup

@[expose] public section

noncomputable section

namespace Cert.Proof.Tile

open Cert.KernelIdeal Cert.KernelIdeal.Gen
open Idealize.ShloMosaic

variable {F : FTy → Type}

/-- The arrays that the call reads: the two flat tables, the two flat linear terms, the time-to-collision table, the
    camera indices and the sensor indices. -/
structure Ins (F : FTy → Type) where
  tA : S4001792.Idx → Elt F .f32
  tB : S4001792.Idx → Elt F .f32
  lA : S49152.Idx → Elt F .f32
  lB : S49152.Idx → Elt F .f32
  tt : S26.Idx → Elt F .f32
  cam : S128x128.Idx → Elt F .i32
  sen : S16384.Idx → Elt F .i32

/-- Every camera index is below 1000000 and every sensor index below 26. -/
def Ins.OK (X : Ins F) : Prop := (∀ j, (X.cam j).toNat < 1000000) ∧ ∀ j, (X.sen j).toNat < 26

/-- The position of component 0 of camera `v` in a flat table, as the tile computes it. -/
def pos0 (v : BitVec 32) : BitVec 32 := IntOp.addi (IntOp.muli 512#32 (IntOp.shrsi .vector v 7#32)) (IntOp.andi v 127#32)

/-- The position of component `k` of camera `v` in a flat table, as the tile computes it. -/
def pos (k : Fin 3) (v : BitVec 32) : BitVec 32 := match k with
  | 0 => pos0 v
  | 1 => IntOp.addi (pos0 v) 128#32
  | 2 => IntOp.addi (pos0 v) 256#32

/-- The position of component 0 as a natural number. -/
theorem pos0_toNat (v : BitVec 32) (h : v.toNat < 1000000) : (pos0 v).toNat = 512 * (v.toNat / 128) + v.toNat % 128 := by
  have h1 : (IntOp.shrsi .vector v 7#32).toNat = v.toNat / 128 := by
    have hm : v.msb = false := by rw [BitVec.msb_eq_false_iff_two_mul_lt]; omega
    simp only [IntOp.shrsi, BitVec.sshiftRight', BitVec.toNat_ofNat, Nat.reducePow, Nat.reduceMod, Nat.reduceLT, ↓reduceIte,
      BitVec.sshiftRight_eq_of_msb_false hm, BitVec.toNat_ushiftRight, Nat.shiftRight_eq_div_pow]
  have h2 : (IntOp.andi v 127#32).toNat = v.toNat % 128 := by
    simp only [IntOp.andi, BitVec.toNat_and]
    exact Nat.and_two_pow_sub_one_eq_mod v.toNat 7
  unfold pos0
  simp only [IntOp.addi, IntOp.muli] at *
  rw [BitVec.toNat_add, BitVec.toNat_mul, h1, h2]
  simp only [BitVec.toNat_ofNat]
  omega

/-- The position of component `k` as a natural number. -/
theorem pos_toNat (k : Fin 3) (v : BitVec 32) (h : v.toNat < 1000000) :
    (pos k v).toNat = 512 * (v.toNat / 128) + v.toNat % 128 + 128 * k.val := by
  have h0 := pos0_toNat v h
  match k with
  | 0 => simpa [pos] using h0
  | 1 => simp only [pos, IntOp.addi, BitVec.toNat_add, h0, BitVec.toNat_ofNat]; show _ = _ + 128 * 1; omega
  | 2 => simp only [pos, IntOp.addi, BitVec.toNat_add, h0, BitVec.toNat_ofNat]; show _ = _ + 128 * 2; omega

/-- The position lies inside the flat table. -/
theorem pos_lt (k : Fin 3) (v : BitVec 32) (h : v.toNat < 1000000) : (pos k v).toNat < 4001792 := by
  rw [pos_toNat k v h]; omega

/-- A component's number within its table: row `r` of the six is component `r mod 3`. -/
def comp (r : Fin 6) : Fin 3 := ⟨r.val % 3, Nat.mod_lt _ (by decide)⟩

variable (X : Ins F)

/-- The table that row `r` of the six reads: rows 0 to 2 the first, rows 3 to 5 the second. -/
def tabOf (r : Fin 6) : S4001792.Idx → Elt F .f32 := if r.val < 3 then X.tA else X.tB
/-- The linear term that row `r` of the six adds. -/
def linOf (r : Fin 6) : S49152.Idx → Elt F .f32 := if r.val < 3 then X.lA else X.lB

/-- Row `r` of the table at a word. -/
def tabAt (r : Fin 6) (w : BitVec 32) : Elt F .f32 := tabOf X r (ix1 ⟨w.toNat % 4001792, Nat.mod_lt _ (by decide)⟩)

/-- Camera index number `x` of the batch. -/
def camAt (x : Fin 16384) : Elt F .i32 := X.cam (ix2 ⟨x.val / 128, by omega⟩ ⟨x.val % 128, Nat.mod_lt _ (by decide)⟩)

/-- The six component rows. -/
def OUT [FloatOps F] : S6x16384.Idx → Elt F .f32 := fun y =>
  FloatOps.addf (φ := .f32) (tabAt X (y 0) (pos (comp (y 0)) (camAt X (y 1))))
    (linOf X (y 0) (ix1 ⟨16384 * (comp (y 0)).val + (y 1).val, by
      have h0 : (comp (y 0)).val < 3 := (comp (y 0)).isLt
      have h1 : (y 1).val < 16384 := (y 1).isLt
      show _ < 49152
      omega⟩))

/-- The time-to-collision values. -/
def TTO : S16384.Idx → Elt F .f32 := fun y => X.tt (ix1 ⟨(X.sen y).toNat % 26, Nat.mod_lt _ (by decide)⟩)

/-! ## What a tile holds -/

variable (L : grid0.Coords)

/-- The tile's first element of the batch. -/
def base : ℕ := 1024 * (L 1).val + 512 * (L 0).val

/-- A tile's 512 elements lie inside the batch. -/
theorem base_le : base L + 512 ≤ 16384 := by
  have h1 : (L 1).val < 16 := (L 1).isLt
  have h0 : (L 0).val < 2 := (L 0).isLt
  unfold base; omega

/-- The element of the batch at place `x` of the tile. -/
def elt (x : Fin 512) : Fin 16384 := ⟨base L + x.val, by have := base_le L; omega⟩

/-- The tile's camera indices. -/
def camT : S4x128.Idx → Elt F .i32 := fun y => X.cam (ix2 ⟨8 * (L 1).val + 4 * (L 0).val + (y 0).val, by
    have h1 : (L 1).val < 16 := (L 1).isLt
    have h0 : (L 0).val < 2 := (L 0).isLt
    have h2 : (y 0).val < 4 := (y 0).isLt
    omega⟩ (y 1))

/-- The positions of component `k` of the tile's cameras. -/
def posT (k : Fin 3) : S4x128.Idx → Elt F .i32 := fun y => pos k (camT X L y)

/-- The tile's sensor indices. -/
def senT : S512.Idx → Elt F .i32 := fun y => X.sen (ix1 (elt L (y 0)))

/-- The gathered values. -/
def gatT : S6x512.Idx → Elt F .f32 := fun y => tabAt X (y 0) (posT X L (comp (y 0))
  (ix2 ⟨(y 1).val / 128, by have h : (y 1).val < 512 := (y 1).isLt; omega⟩ ⟨(y 1).val % 128, Nat.mod_lt _ (by decide)⟩))

/-- The linear terms. -/
def linT : S6x512.Idx → Elt F .f32 := fun y => linOf X (y 0) (ix1 ⟨16384 * (comp (y 0)).val + (elt L (y 1)).val, by
    have h0 : (comp (y 0)).val < 3 := (comp (y 0)).isLt
    have h1 : (elt L (y 1)).val < 16384 := (elt L (y 1)).isLt
    show _ < 49152
    omega⟩)

/-- The sums. -/
def outT [FloatOps F] : S6x512.Idx → Elt F .f32 := fun y => FloatOps.addf (φ := .f32) (gatT X L y) (linT X L y)

/-- The time-to-collision values of the tile. -/
def ttoT : S512.Idx → Elt F .f32 := fun y => TTO X (ix1 (elt L (y 0)))

/-- The camera index of a tile's element, in the tile's own rows of 128. -/
theorem camAt_elt (x : Fin 512) :
    camAt X (elt L x) = camT X L (ix2 ⟨x.val / 128, by omega⟩ ⟨x.val % 128, Nat.mod_lt _ (by decide)⟩) := by
  unfold camAt camT elt base
  congr 2 <;> apply Fin.ext
  · show (1024 * (L 1).val + 512 * (L 0).val + x.val) / 128 = 8 * (L 1).val + 4 * (L 0).val + x.val / 128
    omega
  · show (1024 * (L 1).val + 512 * (L 0).val + x.val) % 128 = x.val % 128
    omega

/-- The tile's sums are its block of the component rows. -/
theorem outT_eq [FloatOps F] (r : Fin 6) (x : Fin 512) : outT X L (ix2 r x) = OUT X (ix2 r (elt L x)) := by
  unfold outT OUT gatT linT posT
  simp only [ix2_0, ix2_1]
  rw [camAt_elt]

/-- A tile's positions lie inside the flat table. -/
theorem posT_lt (hX : X.OK) (k : Fin 3) (y : S4x128.Idx) : (posT X L k y).toNat < 4001792 := pos_lt k _ (hX.1 _)

end Cert.Proof.Tile
-- ==== Proof.Pieces.lean ====
/-
  The pieces that the body's transfers move: rows of the two-dimensional arrays, quarter rows of the gathered values,
  and blocks of the flat arrays; where each places its elements, and how a buffer splits into them.
-/
module

public import proofs.«01_k».proof.Proof.Values
public import Idealize.ShloMosaic.Lib.Pointwise.Reshape

@[expose] public section

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type}

local notation "𝕄" => MT nD τ sig (HIx 1) (Elt F) ℕ UU ℕ

/-- Elements `S` of a buffer, split by a label: the piece of label `b` is the elements of `S` that `g` labels `b`. -/
theorem pts_split {ℓ : Loc nD τ sig} {B : Type} [Fintype B] {q : PosShare TreeShare} (f : Buf (Elt F) ℓ) (S : Finset (Idx ℓ))
    (I : B → Finset (Idx ℓ)) (g : Idx ℓ → B) (h : ∀ b i, i ∈ I b ↔ i ∈ S ∧ g i = b) :
    (ℓ ↦[S]{q} f : sProp 𝕄) = bigSep Finset.univ fun b => ℓ ↦[I b]{q} f := by
  rw [← pointsTo_biUnion Finset.univ I fun b _ b' _ hb => Finset.disjoint_left.mpr fun i hi hi' =>
    hb (((h b i).mp hi).2.symm.trans ((h b' i).mp hi').2)]
  congr 1
  ext i
  simp only [Finset.mem_biUnion, Finset.mem_univ, true_and]
  exact ⟨fun hi => ⟨g i, (h _ i).mpr ⟨hi, rfl⟩⟩, fun ⟨b, hb⟩ => ((h b i).mp hb).1⟩

/-! ## Where the pieces place their elements -/

/-- Row `r` of a two-dimensional view, as a one-dimensional one, places element `x` at column `x` of row `r`. -/
theorem row_emb {κ : Kind} {sp : Space} {e : EltTy} {a n : ℕ} (v : View sig κ sp ⟨2, ![a, n]⟩ e) (r : Fin a)
    (h : ∀ i, (![r.val, 0] : Fin 2 → ℕ) i + (![1, n] : Fin 2 → ℕ) i ≤ (⟨2, ![a, n]⟩ : Shape).size i)
    (hn : (⟨1, ![n]⟩ : Shape).numel = (⟨2, ![1, n]⟩ : Shape).numel) (x : (⟨1, ![n]⟩ : Shape).Idx) :
    ((v.slice (Rect.unit (s := ⟨2, ![a, n]⟩) ![r.val, 0] ![1, n] h)).reshape ⟨1, ![n]⟩ hn).emb x = v.emb (ix2 r (x 0)) := by
  have e1 : Shape.reshapeEquiv (s := ⟨2, ![1, n]⟩) (s' := ⟨1, ![n]⟩) hn x = ix2 0 (x 0) :=
    Shape.reshapeEquiv_eq_of_vals _ _ _ (0 * n + (x 0).val) (x 0).val (rowMajor_val2 (ix2 0 (x 0)) n rfl) (rowMajor_val1 x) (by omega)
  show v.emb ((Rect.unit (s := ⟨2, ![a, n]⟩) ![r.val, 0] ![1, n] h).emb (Shape.reshapeEquiv hn x)) = _
  rw [e1]
  congr 1
  refine Rect.emb_eq_of_coords _ _ _ fun i => ?_
  match i with
  | 0 => show r.val = r.val + 1 * 0; omega
  | 1 => show (x 0).val = 0 + 1 * (x 0).val; omega

/-- A block of a one-dimensional view places element `x` at its offset plus `x`. -/
theorem block_emb {κ : Kind} {sp : Space} {e : EltTy} {n k : ℕ} (v : View sig κ sp ⟨1, ![n]⟩ e) (off : Fin 1 → ℕ)
    (h : ∀ i, off i + (![k] : Fin 1 → ℕ) i ≤ (⟨1, ![n]⟩ : Shape).size i) (x : (⟨1, ![k]⟩ : Shape).Idx) :
    (v.slice (Rect.unit (s := ⟨1, ![n]⟩) off ![k] h)).emb x
      = v.emb (ix1 ⟨off 0 + (x 0).val, Nat.lt_of_lt_of_le (Nat.add_lt_add_left (x 0).isLt _) (h 0)⟩) := by
  show v.emb ((Rect.unit (s := ⟨1, ![n]⟩) off ![k] h).emb x) = _
  congr 1
  refine Rect.emb_eq_of_coords _ _ _ fun i => ?_
  match i with
  | 0 => show off 0 + (x 0).val = off 0 + 1 * (x 0).val; omega

/-- What indices a view covers. -/
theorem mem_view_set {κ : Kind} {sp : Space} {s : Shape} {e : EltTy} (v : View sig κ sp s e) (y : v.ty.shape.Idx) :
    y ∈ v.set ↔ ∃ x, v.emb x = y := by
  unfold View.set
  simp

/-! ## The gathers -/

/-- The component (within its table) of a side's gather `m`. -/
abbrev kOf (m : Fin 12) : Fin 3 := ⟨m.val % 3, Nat.mod_lt _ (by decide)⟩
/-- The quarter of the tile's cameras of a side's gather `m`. -/
abbrev jOf (m : Fin 12) : Fin 4 := ⟨m.val / 3, by omega⟩
/-- The row of the gathered values of component `k` of side `σ`. -/
abbrev rowOf (σ : Fin 2) (k : Fin 3) : Fin 6 := ⟨3 * σ.val + k.val, by omega⟩

/-- The component of a table's row. -/
theorem comp_rowOf (σ : Fin 2) (k : Fin 3) : comp (rowOf σ k) = k := Fin.ext (by show (3 * σ.val + k.val) % 3 = k.val; omega)

/-- A row lies inside its buffer. -/
theorem row_inb (r : Fin 6) : ∀ a, (![r.val, 0] : Fin 2 → ℕ) a + S1x512.size a ≤ S6x512.size a := by
  have := r.isLt
  intro a; match a with
  | 0 => show r.val + 1 ≤ 6; omega
  | 1 => show 0 + 512 ≤ 512; omega
/-- A quarter of a row lies inside the row. -/
theorem quarter_inb (j : Fin 4) : ∀ a, (![128 * j.val] : Fin 1 → ℕ) a + S128.size a ≤ S512.size a := by
  have := j.isLt
  intro a; match a with
  | 0 => show 128 * j.val + 128 ≤ 512; omega
/-- A row of an index list lies inside the list. -/
theorem list_inb (j : Fin 4) : ∀ a, (![j.val, 0] : Fin 2 → ℕ) a + S1x128.size a ≤ S4x128.size a := by
  have := j.isLt
  intro a; match a with
  | 0 => show j.val + 1 ≤ 4; omega
  | 1 => show 0 + 128 ≤ 128; omega

/-- Row `r` of a scratch buffer of six rows. -/
def rowM {e : EltTy} (M : Memref sig .scVector .vmem S6x512 e) (r : Fin 6) : Memref sig .scVector .vmem S512 e :=
  (M.slice (Rect.unit (s := S6x512) ![r.val, 0] S1x512.size (row_inb r)) (fun _ => rfl)).squeeze S512 squeezes_S1x512_S512

/-- Quarter `j` of row `r` of the gathered values. -/
def dstM (r : Fin 6) (j : Fin 4) : Memref sig .scVector .vmem S128 .f32 :=
  (rowM gatV r).slice (Rect.unit (s := S512) ![128 * j.val] S128.size (quarter_inb j)) (fun _ => rfl)

/-- The positions of component `k`. -/
def posV (k : Fin 3) : Memref sig .scVector .vmem S4x128 .i32 := match k with
  | 0 => posV0
  | 1 => posV1
  | 2 => posV2

/-- Row `j` of the positions of component `k`: a gather's list. -/
def listM (k : Fin 3) (j : Fin 4) : Memref sig .scVector .vmem S128 .i32 :=
  ((posV k).slice (Rect.unit (s := S4x128) ![j.val, 0] S1x128.size (list_inb j)) (fun _ => rfl)).squeeze S128 squeezes_S1x128_S128

/-- The table of a side. -/
def tabM (σ : Fin 2) : Memref sig .scVector .hbm S4001792 .f32 := match σ with
  | 0 => tabA.slice (Rect.unit (s := S4001792) ![0] S4001792.size inb_S4001792_S4001792_0) (fun _ => rfl)
  | 1 => tabB.slice (Rect.unit (s := S4001792) ![0] S4001792.size inb_S4001792_S4001792_0) (fun _ => rfl)

/-- A row of the gathered values, index by index. -/
theorem rowM_emb_gat (r : Fin 6) (x : S512.Idx) : (rowM gatV r).view.emb x = ix2 r (x 0) := row_emb gatV.view r _ _ x
/-- A row of the linear terms, index by index. -/
theorem rowM_emb_lin (r : Fin 6) (x : S512.Idx) : (rowM linV r).view.emb x = ix2 r (x 0) := row_emb linV.view r _ _ x
/-- A row of the sums, index by index. -/
theorem rowM_emb_out (r : Fin 6) (x : S512.Idx) : (rowM outV r).view.emb x = ix2 r (x 0) := row_emb outV.view r _ _ x

/-- The destination of a gather, index by index. -/
theorem dstM_emb (r : Fin 6) (j : Fin 4) (x : S128.Idx) :
    (dstM r j).view.emb x = ix2 r ⟨128 * j.val + (x 0).val, by
      have h : (x 0).val < 128 := (x 0).isLt
      have := j.isLt
      omega⟩ :=
  (block_emb (rowM gatV r).view ![128 * j.val] (quarter_inb j) x).trans (rowM_emb_gat r _)

/-- The indices that a gather's destination covers. -/
theorem mem_dstM (r : Fin 6) (j : Fin 4) (y : S6x512.Idx) : y ∈ (dstM r j).view.set ↔ (y 0).val = r.val ∧ (y 1).val / 128 = j.val := by
  refine (mem_view_set (dstM r j).view y).trans ⟨?_, fun ⟨h0, h1⟩ => ?_⟩
  · rintro ⟨x, rfl⟩
    have h : (x 0).val < 128 := (x 0).isLt
    rw [dstM_emb]
    exact ⟨rfl, by show (128 * j.val + (x 0).val) / 128 = j.val; omega⟩
  · refine ⟨ix1 ⟨(y 1).val % 128, Nat.mod_lt _ (by decide)⟩, ?_⟩
    rw [dstM_emb, ← ix2_eta y]
    refine congrArg₂ ix2 (Fin.ext h0.symm) (Fin.ext ?_)
    show 128 * j.val + (y 1).val % 128 = (y 1).val
    omega

/-- The indices that a row of the linear terms covers. -/
theorem mem_rowM_lin (r : Fin 6) (y : S6x512.Idx) : y ∈ (rowM linV r).view.set ↔ (y 0).val = r.val := by
  refine (mem_view_set (rowM linV r).view y).trans ⟨?_, fun h0 => ⟨ix1 (y 1), ?_⟩⟩
  · rintro ⟨x, rfl⟩
    rw [rowM_emb_lin]; rfl
  · rw [rowM_emb_lin, ← ix2_eta y]
    exact congrArg₂ ix2 (Fin.ext h0.symm) rfl

/-- The positions of component `k`, as the buffer that holds them has them. -/
def posBuf (d : Dev nD) (L : grid0.Coords) (X : Ins F) (k : Fin 3) : Buf (Elt F) ((posV k).view.loc (thr d L)) := match k with
  | 0 => posT X L 0
  | 1 => posT X L 1
  | 2 => posT X L 2

/-- The words of an index list's row are the positions. -/
theorem listM_read (d : Dev nD) (L : grid0.Coords) (X : Ins F) (k : Fin 3) (j : Fin 4) (x : S128.Idx) :
    (listM k j).view.read (Elt F) (posBuf d L X k) x = posT X L k (ix2 j (x 0)) := by
  match k with
  | 0 => exact congrArg (posT X L 0) (row_emb posV0.view j _ _ x)
  | 1 => exact congrArg (posT X L 1) (row_emb posV1.view j _ _ x)
  | 2 => exact congrArg (posT X L 2) (row_emb posV2.view j _ _ x)

/-- A buffer held whole through a two-dimensional view of all of it, split into the view's rows. -/
theorem rows_split (c : Thread nD τ) {sp : Space} {e : EltTy} {a n : ℕ} (M : Memref sig c.2.kind sp ⟨2, ![a, n]⟩ e)
    (hv : Function.Surjective M.view.emb) (q : PosShare TreeShare) (f : Buf (Elt F) (M.view.loc c))
    (h : ∀ (r : Fin a) i, (![r.val, 0] : Fin 2 → ℕ) i + (![1, n] : Fin 2 → ℕ) i ≤ (⟨2, ![a, n]⟩ : Shape).size i)
    (hn : (⟨2, ![1, n]⟩ : Shape).Squeezes ⟨1, ![n]⟩) :
    (M.view.loc c ↦{q} f : sProp 𝕄)
      = bigSep Finset.univ fun r : Fin a =>
          M.view.loc c ↦[((M.slice (Rect.unit (s := ⟨2, ![a, n]⟩) ![r.val, 0] ![1, n] (h r)) (fun _ => rfl)).squeeze ⟨1, ![n]⟩ hn).view.set]{q} f := by
  refine pts_split f Finset.univ _ (fun i => (Function.surjInv hv i) 0) fun r i => ?_
  have hi := Function.surjInv_eq hv i
  refine (mem_view_set ((M.slice (Rect.unit (s := ⟨2, ![a, n]⟩) ![r.val, 0] ![1, n] (h r)) (fun _ => rfl)).squeeze ⟨1, ![n]⟩ hn).view i).trans ⟨?_, ?_⟩
  · rintro ⟨x, hx⟩
    refine ⟨Finset.mem_univ _, ?_⟩
    have e := M.view.emb.injective (((row_emb M.view r (h r) hn.numel_eq x).symm.trans hx).trans hi.symm)
    exact (congrFun e 0).symm
  · rintro ⟨-, h'⟩
    refine ⟨ix1 (Function.surjInv hv i 1), (row_emb M.view r (h r) hn.numel_eq _).trans ?_⟩
    rw [← h']
    exact (congrArg M.view.emb (ix2_eta (Function.surjInv hv i))).trans hi

/-- The positions of a component, split into the lists of its gathers. -/
theorem posV_split (d : Dev nD) (L : grid0.Coords) (k : Fin 3) (q : PosShare TreeShare) (f : Buf (Elt F) ((posV k).view.loc (thr d L))) :
    ((posV k).view.loc (thr d L) ↦{q} f : sProp 𝕄)
      = bigSep Finset.univ fun j : Fin 4 => (posV k).view.loc (thr d L) ↦[(listM k j).view.set]{q} f :=
  rows_split (thr d L) (posV k) (match k with | 0 | 1 | 2 => fun i => ⟨i, rfl⟩) q f list_inb squeezes_S1x128_S128

/-- The linear terms' buffer, split into its rows. -/
theorem linV_split (d : Dev nD) (L : grid0.Coords) (q : PosShare TreeShare) (f : Buf (Elt F) (linV.view.loc (thr d L))) :
    (linV.view.loc (thr d L) ↦{q} f : sProp 𝕄)
      = bigSep Finset.univ fun r : Fin 6 => linV.view.loc (thr d L) ↦[(rowM linV r).view.set]{q} f :=
  rows_split (thr d L) linV (fun i => ⟨i, rfl⟩) q f row_inb squeezes_S1x512_S512

/-- The gathered values' buffer, split into what the gathers of the two sides write. -/
theorem gatV_split (d : Dev nD) (L : grid0.Coords) (q : PosShare TreeShare) (f : Buf (Elt F) (gatV.view.loc (thr d L))) :
    (gatV.view.loc (thr d L) ↦{q} f : sProp 𝕄)
      = bigSep Finset.univ fun σ : Fin 2 => bigSep Finset.univ fun m : Fin 12 =>
          gatV.view.loc (thr d L) ↦[(dstM (rowOf σ (kOf m)) (jOf m)).view.set]{q} f := by
  rw [← BI.bigSep_univ_prod (fun p : Fin 2 × Fin 12 =>
    (gatV.view.loc (thr d L) ↦[(dstM (rowOf p.1 (kOf p.2)) (jOf p.2)).view.set]{q} f : sProp 𝕄))]
  refine pts_split f Finset.univ _ (fun y : S6x512.Idx => ((⟨(y 0).val / 3, by have h : (y 0).val < 6 := (y 0).isLt; omega⟩,
    ⟨3 * ((y 1).val / 128) + (y 0).val % 3, by have h : (y 1).val < 512 := (y 1).isLt; omega⟩) : Fin 2 × Fin 12))
    fun p (y : S6x512.Idx) => (mem_dstM _ _ y).trans ?_
  obtain ⟨σ, m⟩ := p
  have h0 : (y 0).val < 6 := (y 0).isLt
  have h1 : (y 1).val < 512 := (y 1).isLt
  have hσ := σ.isLt
  have hm := m.isLt
  simp only [Finset.mem_univ, true_and, Prod.mk.injEq, Fin.ext_iff]
  show (y 0).val = 3 * σ.val + m.val % 3 ∧ (y 1).val / 128 = m.val / 3 ↔ _
  omega

/-! ## The gathers of a side, as one family -/

/-- The table of a side, as the buffer that holds it has it. -/
def tabBuf (d : Dev nD) (L : grid0.Coords) (X : Ins F) (σ : Fin 2) : Buf (Elt F) ((tabM σ).view.loc (thr d L)) := match σ with
  | 0 => X.tA
  | 1 => X.tB

/-- The twelve gathers of side `σ`, the table held at share `q` and the lists at a half. -/
def fam (d : Dev nD) (L : grid0.Coords) (X : Ins F) (hX : X.OK) (q : PosShare TreeShare) (fg : S6x512.Idx → Elt F .f32) (σ : Fin 2) :
    Streams.Fam (sig := sig) F (thr d L) .hbm S4001792 S128 S128 .f32 0 12 where
  src := tabM σ
  dst m := dstM (rowOf σ (kOf m)) (jOf m)
  hg := gathers_S4001792_S128
  offs m := listM (kOf m) (jOf m)
  hn := rfl
  hs := by decide
  q m := pieceOf q 12 (by decide) m
  qo := pieceOf fullShare 2 (by decide) σ
  fs := tabBuf d L X σ
  fd _ := fg
  fo m := posBuf d L X (kOf m)
  hin m x := by rw [listM_read]; exact posT_lt X L hX _ _

end Cert.Proof.Tile
-- ==== Proof.Families.lean ====
/-
  The twelve gathers of each side as two families: what they take, split out of the buffers held whole; what they hand
  back, which is the gathered values; and the state of the two families in flight.
-/
module

public import proofs.«01_k».proof.Proof.Pieces

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A further wait on a DMA semaphore is a wait of the tile's own. -/
theorem waits_insert {W W' : Waits sig (HIx 1)} {s : SemLoc sig} (h : ∀ p ∈ W', p ∈ W ∨ p.2 = none) :
    ∀ p ∈ insert (s, none) W', p ∈ W ∨ p.2 = none := fun p hp =>
  (Finset.mem_insert.mp hp).elim (fun e => .inr (congrArg Prod.snd e)) (h p)

/-- A conjunction over two numbers, spelt out. -/
theorem sep2 (Φ : Fin 2 → sProp 𝕄) : bigSep Finset.univ Φ = iprop(Φ 0 ∗ Φ 1) :=
  bigSep_univ_eq_bigSepL [0, 1] (by decide) (by decide) Φ

/-- A conjunction over three numbers, spelt out. -/
theorem sep3 (Φ : Fin 3 → sProp 𝕄) : bigSep Finset.univ Φ = iprop(Φ 0 ∗ Φ 1 ∗ Φ 2) :=
  bigSep_univ_eq_bigSepL [0, 1, 2] (by decide) (by decide) Φ

/-- A conjunction over six numbers, spelt out. -/
theorem sep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Three families over the same members, as one. -/
theorem sep_join {α : Type} {s : Finset α} (A B C : α → sProp 𝕄) :
    (iprop(bigSep s A ∗ bigSep s B ∗ bigSep s C) : sProp 𝕄) = bigSep s fun a => iprop(A a ∗ B a ∗ C a) :=
  (congrArg₂ BIBase.sep rfl (BI.bigSep_sep s B C).symm).trans (BI.bigSep_sep s A _).symm

/-- The gathers of a side by component and quarter. -/
def gatherEquiv : Fin 3 × Fin 4 ≃ Fin 12 := (Equiv.prodComm (Fin 3) (Fin 4)).trans finProdFinEquiv

/-- The component of a gather's number. -/
theorem gatherEquiv_k (p : Fin 3 × Fin 4) : kOf (gatherEquiv p) = p.1 := by revert p; decide
/-- The list row of a gather's number. -/
theorem gatherEquiv_j (p : Fin 3 × Fin 4) : jOf (gatherEquiv p) = p.2 := by revert p; decide

/-- A conjunction over the twelve gathers of a table is one over their components and list rows. -/
theorem sep_gathers (Φ : Fin 3 → Fin 4 → sProp 𝕄) :
    (bigSep Finset.univ fun m : Fin 12 => Φ (kOf m) (jOf m)) = bigSep Finset.univ fun k => bigSep Finset.univ fun j => Φ k j := by
  rw [← BI.bigSep_univ_prod (fun p : Fin 3 × Fin 4 => Φ p.1 p.2), BI.bigSep_univ_equiv gatherEquiv]
  exact BI.bigSep_congr fun p _ => by rw [gatherEquiv_k, gatherEquiv_j]

variable (d : Dev nD) (L : grid0.Coords) (X : Ins F) (hX : X.OK)

/-- A table is viewed whole: each index of the view is that index of the array. -/
theorem tab_emb (σ : Fin 2) (x : S4001792.Idx) : HEq ((tabM σ).view.emb x) x := by
  match σ with
  | 0 => exact heq_of_eq ((block_emb tabA.view ![0] inb_S4001792_S4001792_0 x).trans ((congrArg ix1 (Fin.ext (Nat.zero_add _))).trans (ix1_eta x)))
  | 1 => exact heq_of_eq ((block_emb tabB.view ![0] inb_S4001792_S4001792_0 x).trans ((congrArg ix1 (Fin.ext (Nat.zero_add _))).trans (ix1_eta x)))

/-- The view of a table covers the whole array. -/
theorem tab_set (σ : Fin 2) : (tabM σ).view.set = Finset.univ := by
  match σ with
  | 0 => exact Finset.eq_univ_iff_forall.mpr fun y => (mem_view_set (tabM 0).view y).mpr ⟨y, eq_of_heq (tab_emb 0 y)⟩
  | 1 => exact Finset.eq_univ_iff_forall.mpr fun y => (mem_view_set (tabM 1).view y).mpr ⟨y, eq_of_heq (tab_emb 1 y)⟩

/-- A share of a table, split into equal parts among its twelve gathers. -/
theorem tab_split (σ : Fin 2) (q : PosShare TreeShare) (f : Buf (Elt F) ((tabM σ).view.loc (thr d L))) :
    ((tabM σ).view.loc (thr d L) ↦{q} f : sProp 𝕄)
      = bigSep Finset.univ fun m : Fin 12 => (tabM σ).view.loc (thr d L) ↦[(tabM σ).view.set]{pieceOf q 12 (by decide) m} f := by
  rw [tab_set]
  exact pointsTo_piecesOf _ f (by decide) q

/-- What the gathers take is the two tables' shares, the gathered values' buffer and the lists, held whole. -/
theorem args_eq (q : PosShare TreeShare) (fg : S6x512.Idx → Elt F .f32) :
    (iprop((bigSep Finset.univ fun σ : Fin 2 => (tabM σ).view.loc (thr d L) ↦{q} tabBuf d L X σ)
      ∗ (gatV.view.loc (thr d L) ↦{fullShare} fg)
      ∗ (bigSep Finset.univ fun k : Fin 3 => (posV k).view.loc (thr d L) ↦{fullShare} posBuf d L X k)) : sProp 𝕄)
      = bigSep Finset.univ fun σ : Fin 2 => bigSep Finset.univ fun m : Fin 12 => (fam d L X hX q fg σ).args m := by
  have e1 : ∀ k : Fin 3, ((posV k).view.loc (thr d L) ↦{fullShare} posBuf d L X k : sProp 𝕄)
      = bigSep Finset.univ fun σ : Fin 2 => bigSep Finset.univ fun j : Fin 4 =>
          (posV k).view.loc (thr d L) ↦[(listM k j).view.set]{pieceOf fullShare 2 (by decide) σ} posBuf d L X k := fun k => by
    rw [pointsTo_piecesOf Finset.univ (posBuf d L X k) (by decide : 0 < 2) fullShare]
    exact BI.bigSep_congr fun σ _ => posV_split d L k _ _
  have e2 := (BI.bigSep_congr (s := Finset.univ) fun k _ => e1 k).trans (Pipeline.bigSep_univ_comm fun (k : Fin 3) (σ : Fin 2) =>
    bigSep Finset.univ fun j : Fin 4 =>
      ((posV k).view.loc (thr d L) ↦[(listM k j).view.set]{pieceOf fullShare 2 (by decide) σ} posBuf d L X k : sProp 𝕄))
  have e3 := BI.bigSep_congr (s := Finset.univ) fun (σ : Fin 2) _ => tab_split d L σ q (tabBuf d L X σ)
  refine (congrArg₂ BIBase.sep e3 (congrArg₂ BIBase.sep (gatV_split d L fullShare fg) e2)).trans ((sep_join _ _ _).trans ?_)
  refine BI.bigSep_congr fun σ _ => ?_
  have e4 := (sep_gathers (fun k j =>
    ((posV k).view.loc (thr d L) ↦[(listM k j).view.set]{pieceOf fullShare 2 (by decide) σ} posBuf d L X k : sProp 𝕄))).symm
  exact (congrArg₂ BIBase.sep rfl (congrArg₂ BIBase.sep rfl e4)).trans (sep_join _ _ _)

/-- What a gather delivers at a place of its destination is the gathered value there. -/
theorem gathered (q : PosShare TreeShare) (fg : S6x512.Idx → Elt F .f32) (σ : Fin 2) (m : Fin 12) (x : S128.Idx) :
    SparseCore.gatherPayload (F := F) (fam d L X hX q fg σ).hg ((fam d L X hX q fg σ).src.view.read (Elt F) (fam d L X hX q fg σ).fs)
        (SparseCore.rows (((fam d L X hX q fg σ).offs m).view.read (Elt F) ((fam d L X hX q fg σ).fo m)) (fam d L X hX q fg σ).hn ((fam d L X hX q fg σ).hin m)) x
      = gatT X L ((dstM (rowOf σ (kOf m)) (jOf m)).view.emb x) := by
  have hm := m.isLt
  have hx : (x 0).val < 128 := (x 0).isLt
  have hi : ∀ i : S4001792.Idx, (i 0).val = (posT X L (kOf m) (ix2 (jOf m) (x 0))).toNat →
      (tabM σ).view.read (Elt F) (tabBuf d L X σ) i
        = tabOf X (rowOf σ (kOf m)) (ix1 ⟨(posT X L (kOf m) (ix2 (jOf m) (x 0))).toNat % 4001792, Nat.mod_lt _ (by decide)⟩) := by
    intro i hi
    have hlt := posT_lt X L hX (kOf m) (ix2 (jOf m) (x 0))
    have e : i = ix1 ⟨(posT X L (kOf m) (ix2 (jOf m) (x 0))).toNat % 4001792, Nat.mod_lt _ (by decide)⟩ := by
      rw [← ix1_eta i]
      exact congrArg ix1 (Fin.ext (hi.trans (Nat.mod_eq_of_lt hlt).symm))
    rw [← e]
    match σ with
    | 0 => exact (congrArg X.tA (eq_of_heq (tab_emb 0 i))).trans (congrFun (if_pos (show 3 * 0 + m.val % 3 < 3 by omega)).symm i)
    | 1 => exact (congrArg X.tB (eq_of_heq (tab_emb 1 i))).trans (congrFun (if_neg (show ¬ 3 * 1 + m.val % 3 < 3 by omega)).symm i)
  refine (hi _ ?_).trans ?_
  · refine (congrArg Fin.val (Shape.Gathers.idx_axis _ _ x)).trans ?_
    show ((listM (kOf m) (jOf m)).view.read (Elt F) (posBuf d L X (kOf m)) _).toNat = _
    rw [listM_read]
    refine congrArg (fun z => (posT X L (kOf m) (ix2 (jOf m) z)).toNat) (Fin.ext ?_)
    refine (rowMajor_val1 _).symm.trans (congrArg Fin.val (Equiv.apply_symm_apply _ _))
  · rw [dstM_emb]
    unfold gatT tabAt
    simp only [ix2_0, ix2_1, comp_rowOf]
    refine congrArg (fun z => tabOf X (rowOf σ (kOf m)) (ix1 ⟨(posT X L (kOf m) z).toNat % 4001792, Nat.mod_lt _ (by decide)⟩))
      (congrArg₂ ix2 (Fin.ext ?_) (Fin.ext ?_))
    · show m.val / 3 = (128 * (m.val / 3) + (x 0).val) / 128; omega
    · show (x 0).val = (128 * (m.val / 3) + (x 0).val) % 128; omega

/-- What a gather hands back is what it took, with the gathered values in its destination. -/
theorem back_args (q : PosShare TreeShare) (fg : S6x512.Idx → Elt F .f32) (σ : Fin 2) (m : Fin 12) :
    ((fam d L X hX q fg σ).back m : sProp 𝕄) ⊢ (fam d L X hX q (gatT X L) σ).args m := by
  have e : ((fam d L X hX q fg σ).back m : sProp 𝕄)
      = iprop(((dstM (rowOf σ (kOf m)) (jOf m)).view.loc (thr d L) ↦[(dstM (rowOf σ (kOf m)) (jOf m)).view.set]{fullShare} gatT X L)
        ∗ ((tabM σ).view.loc (thr d L) ↦[(tabM σ).view.set]{pieceOf q 12 (by decide) m} tabBuf d L X σ)
        ∗ ((listM (kOf m) (jOf m)).view.loc (thr d L) ↦[(listM (kOf m) (jOf m)).view.set]{pieceOf fullShare 2 (by decide) σ} posBuf d L X (kOf m))) := by
    refine congrArg (fun P => iprop(P ∗ _ ∗ _)) (pointsTo_congr fun y hy => ?_)
    obtain ⟨x, rfl⟩ := (mem_view_set (dstM (rowOf σ (kOf m)) (jOf m)).view y).mp hy
    exact (View.write_emb_of_mem _ _ (Finset.mem_univ x)).trans (gathered d L X hX q fg σ m x)
  rw [e]
  iintro ⟨H1, H2, H3⟩
  unfold Streams.Fam.args
  isplitl [H2]; · iexact H2
  isplitl [H1]; · iexact H1
  iexact H3

/-- All that the gathers hand back: the tables' shares, the gathered values and the lists. -/
theorem back_eq (q : PosShare TreeShare) (fg : S6x512.Idx → Elt F .f32) :
    (bigSep Finset.univ fun σ : Fin 2 => bigSep Finset.univ fun m : Fin 12 => ((fam d L X hX q fg σ).back m : sProp 𝕄))
      ⊢ iprop((bigSep Finset.univ fun σ : Fin 2 => (tabM σ).view.loc (thr d L) ↦{q} tabBuf d L X σ)
      ∗ (gatV.view.loc (thr d L) ↦{fullShare} gatT X L)
      ∗ (bigSep Finset.univ fun k : Fin 3 => (posV k).view.loc (thr d L) ↦{fullShare} posBuf d L X k)) := by
  rw [args_eq d L X hX q (gatT X L)]
  exact BI.bigSep_mono fun σ _ => BI.bigSep_mono fun m _ => back_args d L X hX q fg σ m

/-- The two families in flight: `a` gathers of the first and `b` of the second issued, none awaited. -/
def issuing (q : PosShare TreeShare) (fg : S6x512.Idx → Elt F .f32) (a b : ℕ) : sProp 𝕄 :=
  iprop((fam d L X hX q fg 0).issued EC cc0_scratch10.sem (none : HIx 1) 32 a 0 ∗ (fam d L X hX q fg 1).issued EC cc0_scratch11.sem (none : HIx 1) 32 b 0)

/-- What a landed row of a gather is worth in credit. -/
theorem row_credit (q : PosShare TreeShare) (fg : S6x512.Idx → Elt F .f32) (σ : Fin 2) (i : Fin 12)
    (j : Fin (fam d L X hX q fg σ).o) :
    (((fam d L X hX q fg σ).dst i).slice (S128.rowRect (fam d L X hX q fg σ).hg.axis' j) (fun _ => rfl)).view.dmaCredit = 32 :=
  rfl

/-- What a landed gather is worth in credit. -/
theorem dst_credit (q : PosShare TreeShare) (fg : S6x512.Idx → Elt F .f32) (σ : Fin 2) (i : Fin 12) :
    ((fam d L X hX q fg σ).dst i).view.dmaCredit = (fam d L X hX q fg σ).o * 32 := rfl

section Rules

variable {α : Type} [FloatOps F]

/-- The issue of gather `n` of a side, its operands spelt as the program spells them. -/
theorem issue (q : PosShare TreeShare) (fg : S6x512.Idx → Elt F .f32) (σ : Fin 2) (n : ℕ) (hn : n < 12) {sem : DmaSem sig} {Q : α → sProp 𝕄}
    {src : Memref sig .scVector .hbm S4001792 .f32} {dst : Memref sig .scVector .vmem S128 .f32} {hg : S4001792.Gathers 0 S128}
    {offs : Memref sig .scVector .vmem S128 .i32} {hno : S128.numel = S128.size hg.axis'}
    {hp : (thr d L).2.kind = .scVector} {hsrc : src.view.WordExact} {he : EltTy.f32.bits = 32} {hsp : Space.hbm = .hbm ∨ Space.hbm = .shared}
    {hr : S4001792.StreamRows 0}
    {kont : PUnit → Prog (TpuEff nD τ sig (Elt F) Λ₀ (thr d L).2) α} :
    iprop((fam d L X hX q fg σ).issued EC sem (none : HIx 1) 32 n 0)
      ⊢ iprop(⌜src = tabM σ ∧ dst = dstM (rowOf σ (kOf ⟨n, hn⟩)) (jOf ⟨n, hn⟩) ∧ offs = listM (kOf ⟨n, hn⟩) (jOf ⟨n, hn⟩)⌝
        -∗ ((fam d L X hX q fg σ).issued EC sem (none : HIx 1) 32 (n + 1) 0
          -∗ wp frame (wpE (defs₀ (F := F)) 𝒱₀ (thr d L) none) Set.univ (kont ⟨⟩) Q)
        -∗ wp frame (wpE (defs₀ (F := F)) 𝒱₀ (thr d L) none) Set.univ
            (SparseCore.enqueueIndirectGather hp src dst hg offs hno sem hsrc he hsp hr >>= kont) Q) := by
  iintro HG %h
  obtain ⟨h1, h2, h3⟩ := h
  iapply (Streams.Fam.wp_issue EC 𝒱₀ none (fam d L X hX q fg σ) ⟨n, hn⟩ (row_credit d L X hX q fg σ _) h1 h2 h3) $$ HG

end Rules

/-- What the two families take, out of the buffers held whole, with their semaphores at zero: the families, none issued. -/
theorem issuing_start (q : PosShare TreeShare) (fg : S6x512.Idx → Elt F .f32) :
    (iprop((tabA.view.loc (thr d L) ↦{q} X.tA) ∗ (tabB.view.loc (thr d L) ↦{q} X.tB) ∗ (gatV.view.loc (thr d L) ↦{fullShare} fg)
      ∗ (posV0.view.loc (thr d L) ↦{fullShare} posT X L 0) ∗ (posV1.view.loc (thr d L) ↦{fullShare} posT X L 1)
      ∗ (posV2.view.loc (thr d L) ↦{fullShare} posT X L 2)
      ∗ semVal (thr d L, SemLoc.dma cc0_scratch10.sem) 0 ∗ semVal (thr d L, SemLoc.dma cc0_scratch11.sem) 0) : sProp 𝕄)
      ⊢ |={Set.univ}=> issuing d L X hX q fg 0 0 := by
  have e := args_eq d L X hX q fg
  rw [sep2, sep2, sep3] at e
  have e' : (iprop(((tabA.view.loc (thr d L) ↦{q} X.tA) ∗ (tabB.view.loc (thr d L) ↦{q} X.tB)) ∗ (gatV.view.loc (thr d L) ↦{fullShare} fg)
      ∗ ((posV0.view.loc (thr d L) ↦{fullShare} posT X L 0) ∗ (posV1.view.loc (thr d L) ↦{fullShare} posT X L 1)
      ∗ (posV2.view.loc (thr d L) ↦{fullShare} posT X L 2))) : sProp 𝕄) ⊢ _ := Entails.of_eq e
  iintro ⟨HA, HB, Hg, H0, H1, H2, Hs0, Hs1⟩
  ihave HH := e' $$ [HA HB Hg H0 H1 H2]
  · isplitl [HA HB]
    · isplitl [HA]; · iexact HA
      iexact HB
    isplitl [Hg]; · iexact Hg
    isplitl [H0]; · iexact H0
    isplitl [H1]; · iexact H1
    iexact H2
  icases HH with ⟨G0, G1⟩
  imod (Streams.Fam.issued_start EC (fam d L X hX q fg 0) cc0_scratch10.sem (none : HIx 1) 32) $$ [G0 Hs0] with G0
  · isplitl [G0]; · iexact G0
    iexact Hs0
  imod (Streams.Fam.issued_start EC (fam d L X hX q fg 1) cc0_scratch11.sem (none : HIx 1) 32) $$ [G1 Hs1] with G1
  · isplitl [G1]; · iexact G1
    iexact Hs1
  imodintro
  unfold issuing
  isplitl [G0]; · iexact G0
  iexact G1

/-- The two families, all issued, `a` gathers of the first and `b` of the second awaited. -/
def awaiting (q : PosShare TreeShare) (fg : S6x512.Idx → Elt F .f32) (a b : ℕ) : sProp 𝕄 :=
  iprop((fam d L X hX q fg 0).issued EC cc0_scratch10.sem (none : HIx 1) 32 12 (a * 128 * 32)
    ∗ (fam d L X hX q fg 1).issued EC cc0_scratch11.sem (none : HIx 1) 32 12 (b * 128 * 32))

/-- All awaited: the gathered values, and what the families took besides. -/
theorem awaiting_end (q : PosShare TreeShare) (fg : S6x512.Idx → Elt F .f32) :
    awaiting d L X hX q fg 12 12
      ⊢ (|={Set.univ}=> (iprop((tabA.view.loc (thr d L) ↦{q} X.tA) ∗ (tabB.view.loc (thr d L) ↦{q} X.tB) ∗ (gatV.view.loc (thr d L) ↦{fullShare} gatT X L)
      ∗ (posV0.view.loc (thr d L) ↦{fullShare} posT X L 0) ∗ (posV1.view.loc (thr d L) ↦{fullShare} posT X L 1)
      ∗ (posV2.view.loc (thr d L) ↦{fullShare} posT X L 2)
      ∗ semVal (thr d L, SemLoc.dma cc0_scratch10.sem) 0 ∗ semVal (thr d L, SemLoc.dma cc0_scratch11.sem) 0)) : sProp 𝕄) := by
  have e := back_eq d L X hX q fg
  rw [sep2, sep2, sep3] at e
  have e' : _ ⊢ (iprop(((tabA.view.loc (thr d L) ↦{q} X.tA) ∗ (tabB.view.loc (thr d L) ↦{q} X.tB)) ∗ (gatV.view.loc (thr d L) ↦{fullShare} gatT X L)
      ∗ ((posV0.view.loc (thr d L) ↦{fullShare} posT X L 0) ∗ (posV1.view.loc (thr d L) ↦{fullShare} posT X L 1)
      ∗ (posV2.view.loc (thr d L) ↦{fullShare} posT X L 2))) : sProp 𝕄) := e
  unfold awaiting
  iintro ⟨G0, G1⟩
  imod (Streams.Fam.issued_end EC (fam d L X hX q fg 0) (sem := cc0_scratch10.sem) (ι := (none : HIx 1)) (N := 32) (by decide)) $$ [G0] with ⟨G0, Hs0⟩
  · iexact G0
  imod (Streams.Fam.issued_end EC (fam d L X hX q fg 1) (sem := cc0_scratch11.sem) (ι := (none : HIx 1)) (N := 32) (by decide)) $$ [G1] with ⟨G1, Hs1⟩
  · iexact G1
  ihave HH := e' $$ [G0 G1]
  · isplitl [G0]; · iexact G0
    iexact G1
  icases HH with ⟨⟨HA, HB⟩, Hg, H0, H1, H2⟩
  imodintro
  isplitl [HA]; · iexact HA
  isplitl [HB]; · iexact HB
  isplitl [Hg]; · iexact Hg
  isplitl [H0]; · iexact H0
  isplitl [H1]; · iexact H1
  isplitl [H2]; · iexact H2
  isplitl [Hs0]; · iexact Hs0
  iexact Hs1

end Cert.Proof.Tile
-- ==== Proof.Build.lean ====
/-
  The first part of a tile's task: it fetches its camera indices, computes the positions of their components in the flat
  tables, and starts the first gather of each side.
-/
module

public import proofs.«01_k».proof.Proof.Families

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The first `n` elements of a list of positions are the wanted ones. -/
def PosDone (n : ℕ) (f g : S4x128.Idx → Elt F .i32) : Prop := ∀ y, 128 * (y 0).val + (y 1).val < n → f y = g y

/-- A store of sixteen elements in a row, read back: the stored values where it reaches, what was there elsewhere. -/
theorem read_chunk {κ : Kind} {sp : Space} {e : EltTy} {a n : ℕ} (v : View sig κ sp ⟨2, ![a, n]⟩ e) (f : v.ty.Contents (Elt F))
    (off : Fin 2 → ℕ) (inb : ∀ i, off i + (![1, 16] : Fin 2 → ℕ) i ≤ (⟨2, ![a, n]⟩ : Shape).size i)
    (w : (⟨2, ![1, 16]⟩ : Shape).Idx → Elt F e) (l : List (View.Piece (Elt F) ⟨2, ![a, n]⟩ e)) (y : (⟨2, ![a, n]⟩ : Shape).Idx) :
    v.read (Elt F) (v.writes (Elt F) f (⟨Rect.unit (s := ⟨2, ![a, n]⟩) off ![1, 16] inb, w⟩ :: l)) y
      = if h : (y 0).val = off 0 ∧ off 1 ≤ (y 1).val ∧ (y 1).val < off 1 + 16 then w (ix2 0 ⟨(y 1).val - off 1, by omega⟩)
        else v.read (Elt F) (v.writes (Elt F) f l) y := by
  split
  · rename_i h
    refine View.read_writes_cons_hit_of_coords v f _ _ l _ y fun i => ?_
    match i with
    | 0 => show (y 0).val = off 0 + 1 * 0; omega
    | 1 => show (y 1).val = off 1 + 1 * ((y 1).val - off 1); omega
  · rename_i h
    by_cases h0 : (y 0).val = off 0
    · exact View.read_writes_cons_miss_of_axis v f _ l y 1 (off 1) 16 rfl rfl rfl (by omega)
    · exact View.read_writes_cons_miss_of_axis v f _ l y 0 (off 0) 1 rfl rfl rfl (by omega)

/-- A load of sixteen elements in a row reads the elements of the row from its offset on. -/
theorem load_chunk {κ : Kind} {sp : Space} {e : EltTy} {a n : ℕ} (v : View sig κ sp ⟨2, ![a, n]⟩ e) (f : v.ty.Contents (Elt F))
    (off : Fin 2 → ℕ) (inb : ∀ i, off i + (![1, 16] : Fin 2 → ℕ) i ≤ (⟨2, ![a, n]⟩ : Shape).size i)
    (x : (⟨2, ![1, 16]⟩ : Shape).Idx) (y : (⟨2, ![a, n]⟩ : Shape).Idx) (h0 : (y 0).val = off 0) (h1 : (y 1).val = off 1 + (x 1).val) :
    v.readAt (Elt F) (Rect.unit (s := ⟨2, ![a, n]⟩) off ![1, 16] inb).toLoadRect f x = v.read (Elt F) f y := by
  rw [View.readAt_apply]
  congr 1
  refine funext fun i => Fin.ext ?_
  match i with
  | 0 =>
    have hx : (x 0).val < 1 := (x 0).isLt
    show off 0 + 1 * (x 0).val = (y 0).val; omega
  | 1 => show off 1 + 1 * (x 1).val = (y 1).val; omega

/-- Sixteen elements re-indexed as a row and back. -/
theorem chunk_back (x : S1x16.Idx) : Shape.reshapeEquiv shapeCasts_S1x16_S16 (Shape.reshapeEquiv shapeCasts_S16_S1x16 x) = x := by
  apply (Shape.rowMajor S1x16).injective
  exact Fin.ext ((Shape.rowMajor_reshapeEquiv _ _).trans (Shape.rowMajor_reshapeEquiv _ _))

/-- The place of trip `k` in a list of positions: sixteen elements of row `k / 8`. -/
theorem k0_off2_eq : ∀ k : Fin k0_t1_loop.trips, k0_off2 k = ![k.val / 8, 16 * (k.val % 8)] := by decide +kernel

/-- A trip's store extends the positions done by sixteen. -/
theorem pos_step (v : View sig .scVector .vmem S4x128 .i32) (k : Fin k0_t1_loop.trips) (f : v.ty.Contents (Elt F)) (g : S4x128.Idx → Elt F .i32)
    (w : S1x16.Idx → Elt F .i32) (inb : ∀ i, k0_off2 k i + S1x16.size i ≤ S4x128.size i)
    (hw : ∀ x (y : S4x128.Idx), (y 0).val = k.val / 8 → (y 1).val = 16 * (k.val % 8) + (x 1).val → w x = g y)
    (h : PosDone (16 * k.val) (v.read (Elt F) f) g) :
    PosDone (16 * (k.val + 1)) (v.read (Elt F) (v.writes (Elt F) f [⟨Rect.unit (s := S4x128) (k0_off2 k) S1x16.size inb, w⟩])) g := by
  intro y hy
  have e := k0_off2_eq k
  have e0 : k0_off2 k 0 = k.val / 8 := congrFun e 0
  have e1 : k0_off2 k 1 = 16 * (k.val % 8) := congrFun e 1
  have hk : k.val < 32 := k.isLt
  have h1 : (y 1).val < 128 := (y 1).isLt
  refine (read_chunk v f _ inb w [] y).trans ?_
  split
  · rename_i hh
    refine hw _ y (by omega) ?_
    show (y 1).val = 16 * (k.val % 8) + ((y 1).val - k0_off2 k 1)
    omega
  · rename_i hh
    exact h y (by omega)

variable [FloatOps F] (d : Dev nD) (L : grid0.Coords) (X : Ins F)

/-- Between trips: the first `16 n` positions of each component are in place. -/
def buildInv (n : Nat) (_ : PUnit) : sProp 𝕄 :=
  iprop((camV.view.loc (thr d L) ↦{fullShare} camT X L)
    ∗ (∃ f, ⌜PosDone (16 * n) f (posT X L 0)⌝ ∗ posV0.view.loc (thr d L) ↦{fullShare} f)
    ∗ (∃ f, ⌜PosDone (16 * n) f (posT X L 1)⌝ ∗ posV1.view.loc (thr d L) ↦{fullShare} f)
    ∗ (∃ f, ⌜PosDone (16 * n) f (posT X L 2)⌝ ∗ posV2.view.loc (thr d L) ↦{fullShare} f))

/-- The tile's rows of the camera indices. -/
theorem cam_read (f : camV.view.ty.Contents (Elt F)) :
    camV.view.write (Elt F) f ((camH.slice (Rect.unit (s := S128x128) (k0_off1 L) S4x128.size (k0_off1_inb L)) (fun _ => rfl)).view.read (Elt F) X.cam)
      Finset.univ = camT X L := by
  refine (View.write_whole_univ _ _ _).trans ?_
  funext y
  refine congrArg X.cam (Rect.emb_eq_of_coords _ _ _ fun i => ?_)
  have e := k0_off1_eq L
  have e0 : k0_off1 L 0 = 8 * (L 1).val + 4 * (L 0).val := congrFun e 0
  have e1 : k0_off1 L 1 = 0 := congrFun e 1
  match i with
  | 0 => show 8 * (L 1).val + 4 * (L 0).val + (y 0).val = k0_off1 L 0 + 1 * (y 0).val; omega
  | 1 => show (y 1).val = k0_off1 L 1 + 1 * (y 1).val; omega

set_option maxHeartbeats 2000000 in
/-- The fetch of the camera indices, the positions, and the first gather of each side. -/
theorem part3_wp (hX : X.OK) (O : CellTallies nD τ sig (HIx 1)) (W : Waits sig (HIx 1)) (q : PosShare TreeShare)
    (fg : S6x512.Idx → Elt F .f32) (Q : BitVec 32 → sProp 𝕄) :
    iprop(Transfers.MayWaits (thr d L) (none : HIx 1) O ∗ owed (F := F) d L O W
      ∗ semVal (thr d L, SemLoc.dma cc0_scoped0.sem) 0
      ∗ (camH.view.loc (thr d L) ↦{q} X.cam)
      ∗ (∃ f, camV.view.loc (thr d L) ↦{fullShare} f)
      ∗ (∃ f, posV0.view.loc (thr d L) ↦{fullShare} f)
      ∗ (∃ f, posV1.view.loc (thr d L) ↦{fullShare} f)
      ∗ (∃ f, posV2.view.loc (thr d L) ↦{fullShare} f)
      ∗ (gatV.view.loc (thr d L) ↦{fullShare} fg)
      ∗ (tabA.view.loc (thr d L) ↦{q} X.tA)
      ∗ (tabB.view.loc (thr d L) ↦{q} X.tB)
      ∗ semVal (thr d L, SemLoc.dma cc0_scratch10.sem) 0
      ∗ semVal (thr d L, SemLoc.dma cc0_scratch11.sem) 0) ⊢
    iprop((∀ v, (owed (F := F) d L O W
        ∗ semVal (thr d L, SemLoc.dma cc0_scoped0.sem) 0
        ∗ (camH.view.loc (thr d L) ↦{q} X.cam)
        ∗ (camV.view.loc (thr d L) ↦{fullShare} camT X L)
        ∗ issuing d L X hX q fg 1 1) -∗ Q v)
      -∗ wp frame (wpE (defs₀ (F := F)) 𝒱₀ (thr d L) none) Set.univ (part3 (F := F) L) Q) := by
  unfold part3
  rw [k0_part3_eq_skeleton]; unfold k0_part3_skel owed
  iintro ⟨#Hmw, ⟨%W', %hW', HO⟩, Hsem, Hx, ⟨%f, Hc⟩, ⟨%f0, H0⟩, ⟨%f1, H1⟩, ⟨%f2, H2⟩, Hg, HA, HB, Hs0, Hs1⟩ HQ
  sl_exec
  sl_for (buildInv d L X) $$ [Hc H0 H1 H2]
  case region =>
    intro k _
    unfold buildInv
    iintro ⟨Hc, ⟨%f0, %hf0, H0⟩, ⟨%f1, %hf1, H1⟩, ⟨%f2, %hf2, H2⟩⟩
    sl_exec
    sl_step
    isplitl [Hc]; · iexact Hc
    have hl : ∀ (x : S1x16.Idx) (y : S4x128.Idx), (y 0).val = k.val / 8 → (y 1).val = 16 * (k.val % 8) + (x 1).val →
        camV.view.readAt (Elt F) (Rect.unit (s := S4x128) (k0_off2 k) S1x16.size (k0_off2_inb k)).toLoadRect (camT X L)
          (Shape.reshapeEquiv shapeCasts_S1x16_S16 (Shape.reshapeEquiv shapeCasts_S16_S1x16 x)) = camT X L y := fun x y h0 h1 => by
      rw [chunk_back]
      exact load_chunk camV.view (camT X L) _ _ x y (h0.trans (congrFun (k0_off2_eq k) 0).symm)
        (h1.trans (congrArg (· + (x 1).val) (congrFun (k0_off2_eq k) 1).symm))
    isplitl [H0]
    · iexists _
      isplitr
      rotate_left
      · iexact H0
      ipureintro
      exact pos_step posV0.view k f0 _ _ _ (fun x y h0 h1 => congrArg (pos 0) (hl x y h0 h1)) hf0
    isplitl [H1]
    · iexists _
      isplitr
      rotate_left
      · iexact H1
      ipureintro
      exact pos_step posV1.view k f1 _ _ _ (fun x y h0 h1 => congrArg (pos 1) (hl x y h0 h1)) hf1
    · iexists _
      isplitr
      rotate_left
      · iexact H2
      ipureintro
      exact pos_step posV2.view k f2 _ _ _ (fun x y h0 h1 => congrArg (pos 2) (hl x y h0 h1)) hf2
  · unfold buildInv
    isplitl [Hc]
    · rw [show (camV.view.write (Elt F) f (part3_wp.sl.dma0 L X) Finset.univ) = camT X L from cam_read L X f]; iexact Hc
    isplitl [H0]; · iexists _; isplitr; rotate_left; · iexact H0
                    ipureintro; exact fun y hy => absurd hy (by omega)
    isplitl [H1]; · iexists _; isplitr; rotate_left; · iexact H1
                    ipureintro; exact fun y hy => absurd hy (by omega)
    iexists _; isplitr; rotate_left; · iexact H2
    ipureintro; exact fun y hy => absurd hy (by omega)
  iintro %_ HI
  unfold buildInv
  icases HI with ⟨Hc, ⟨%g0, %hg0, H0⟩, ⟨%g1, %hg1, H1⟩, ⟨%g2, %hg2, H2⟩⟩
  have hd : ∀ f g : S4x128.Idx → Elt F .i32, PosDone (16 * Scf.trips k0_t1_loop.lb k0_t1_loop.ub k0_t1_loop.st) f g → f = g := fun f g h =>
    funext fun y => h y (by
      have h0 : (y 0).val < 4 := (y 0).isLt
      have h1 : (y 1).val < 128 := (y 1).isLt
      show _ < 16 * 32; omega)
  obtain rfl := hd _ _ hg0
  obtain rfl := hd _ _ hg1
  obtain rfl := hd _ _ hg2
  imod (issuing_start d L X hX q fg) $$ [HA HB Hg H0 H1 H2 Hs0 Hs1] with HI
  · isplitl [HA]; · iexact HA
    isplitl [HB]; · iexact HB
    isplitl [Hg]; · iexact Hg
    isplitl [H0]; · iexact H0
    isplitl [H1]; · iexact H1
    isplitl [H2]; · iexact H2
    isplitl [Hs0]; · iexact Hs0
    iexact Hs1
  unfold issuing
  icases HI with ⟨G0, G1⟩
  sl_exec
  iapply (issue d L X hX q fg 0 0 (by decide)) $$ G0 []
  · ipureintro; exact ⟨rfl, rfl, rfl⟩
  iintro G0
  sl_exec
  iapply (issue d L X hX q fg 1 0 (by decide)) $$ G1 []
  · ipureintro; exact ⟨rfl, rfl, rfl⟩
  iintro G1
  sl_exec
  rw [wp_ret]; imodintro
  iapply HQ
  isplitl [HO]; · iexists _; isplitr; rotate_left; · iexact HO
                  ipureintro; exact waits_insert hW'
  isplitl [Hsem]; · iexact Hsem
  isplitl [Hx]; · iexact Hx
  isplitl [Hc]; · iexact Hc
  isplitl [G0]; · iexact G0
  iexact G1

end Cert.Proof.Tile
-- ==== Proof.Issue.lean ====
/-
  The parts of a tile's task that start gathers and do nothing else.
-/
module

public import proofs.«01_k».proof.Proof.Build

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (X : Ins F) (hX : X.OK) (q : PosShare TreeShare) (fg : S6x512.Idx → Elt F .f32)

/-- Part 4: 5 gathers are started. -/
theorem part4_wp (Q : PUnit.{1} → sProp 𝕄) :
    issuing d L X hX q fg 1 1 ⊢ iprop((issuing d L X hX q fg 4 3 -∗ Q PUnit.unit)
      -∗ wp frame (wpE (defs₀ (F := F)) 𝒱₀ (thr d L) none) Set.univ (part4 (F := F) L) Q) := by
  unfold part4 issuing
  rw [k0_part4_eq_skeleton]; unfold k0_part4_skel
  iintro ⟨G0, G1⟩ HQ
  sl_exec
  iapply (issue d L X hX q fg 0 1 (by decide)) $$ G0 []
  · ipureintro; exact ⟨rfl, rfl, rfl⟩
  iintro G0
  sl_exec
  iapply (issue d L X hX q fg 1 1 (by decide)) $$ G1 []
  · ipureintro; exact ⟨rfl, rfl, rfl⟩
  iintro G1
  sl_exec
  iapply (issue d L X hX q fg 0 2 (by decide)) $$ G0 []
  · ipureintro; exact ⟨rfl, rfl, rfl⟩
  iintro G0
  sl_exec
  iapply (issue d L X hX q fg 1 2 (by decide)) $$ G1 []
  · ipureintro; exact ⟨rfl, rfl, rfl⟩
  iintro G1
  sl_exec
  iapply (issue d L X hX q fg 0 3 (by decide)) $$ G0 []
  · ipureintro; exact ⟨rfl, rfl, rfl⟩
  iintro G0
  sl_exec
  rw [wp_ret]; imodintro
  iapply HQ
  isplitl [G0]; · iexact G0
  iexact G1

/-- Part 5: 4 gathers are started. -/
theorem part5_wp (Q : PUnit.{1} → sProp 𝕄) :
    issuing d L X hX q fg 4 3 ⊢ iprop((issuing d L X hX q fg 6 5 -∗ Q PUnit.unit)
      -∗ wp frame (wpE (defs₀ (F := F)) 𝒱₀ (thr d L) none) Set.univ (part5 (F := F) L) Q) := by
  unfold part5 issuing
  rw [k0_part5_eq_skeleton]; unfold k0_part5_skel
  iintro ⟨G0, G1⟩ HQ
  sl_exec
  iapply (issue d L X hX q fg 1 3 (by decide)) $$ G1 []
  · ipureintro; exact ⟨rfl, rfl, rfl⟩
  iintro G1
  sl_exec
  iapply (issue d L X hX q fg 0 4 (by decide)) $$ G0 []
  · ipureintro; exact ⟨rfl, rfl, rfl⟩
  iintro G0
  sl_exec
  iapply (issue d L X hX q fg 1 4 (by decide)) $$ G1 []
  · ipureintro; exact ⟨rfl, rfl, rfl⟩
  iintro G1
  sl_exec
  iapply (issue d L X hX q fg 0 5 (by decide)) $$ G0 []
  · ipureintro; exact ⟨rfl, rfl, rfl⟩
  iintro G0
  sl_exec
  rw [wp_ret]; imodintro
  iapply HQ
  isplitl [G0]; · iexact G0
  iexact G1

/-- Part 6: 5 gathers are started. -/
theorem part6_wp (Q : PUnit.{1} → sProp 𝕄) :
    issuing d L X hX q fg 6 5 ⊢ iprop((issuing d L X hX q fg 8 8 -∗ Q PUnit.unit)
      -∗ wp frame (wpE (defs₀ (F := F)) 𝒱₀ (thr d L) none) Set.univ (part6 (F := F) L) Q) := by
  unfold part6 issuing
  rw [k0_part6_eq_skeleton]; unfold k0_part6_skel
  iintro ⟨G0, G1⟩ HQ
  sl_exec
  iapply (issue d L X hX q fg 1 5 (by decide)) $$ G1 []
  · ipureintro; exact ⟨rfl, rfl, rfl⟩
  iintro G1
  sl_exec
  iapply (issue d L X hX q fg 0 6 (by decide)) $$ G0 []
  · ipureintro; exact ⟨rfl, rfl, rfl⟩
  iintro G0
  sl_exec
  iapply (issue d L X hX q fg 1 6 (by decide)) $$ G1 []
  · ipureintro; exact ⟨rfl, rfl, rfl⟩
  iintro G1
  sl_exec
  iapply (issue d L X hX q fg 0 7 (by decide)) $$ G0 []
  · ipureintro; exact ⟨rfl, rfl, rfl⟩
  iintro G0
  sl_exec
  iapply (issue d L X hX q fg 1 7 (by decide)) $$ G1 []
  · ipureintro; exact ⟨rfl, rfl, rfl⟩
  iintro G1
  sl_exec
  rw [wp_ret]; imodintro
  iapply HQ
  isplitl [G0]; · iexact G0
  iexact G1

/-- Part 7: 5 gathers are started. -/
theorem part7_wp (Q : PUnit.{1} → sProp 𝕄) :
    issuing d L X hX q fg 8 8 ⊢ iprop((issuing d L X hX q fg 11 10 -∗ Q PUnit.unit)
      -∗ wp frame (wpE (defs₀ (F := F)) 𝒱₀ (thr d L) none) Set.univ (part7 (F := F) L) Q) := by
  unfold part7 issuing
  rw [k0_part7_eq_skeleton]; unfold k0_part7_skel
  iintro ⟨G0, G1⟩ HQ
  sl_exec
  iapply (issue d L X hX q fg 0 8 (by decide)) $$ G0 []
  · ipureintro; exact ⟨rfl, rfl, rfl⟩
  iintro G0
  sl_exec
  iapply (issue d L X hX q fg 1 8 (by decide)) $$ G1 []
  · ipureintro; exact ⟨rfl, rfl, rfl⟩
  iintro G1
  sl_exec
  iapply (issue d L X hX q fg 0 9 (by decide)) $$ G0 []
  · ipureintro; exact ⟨rfl, rfl, rfl⟩
  iintro G0
  sl_exec
  iapply (issue d L X hX q fg 1 9 (by decide)) $$ G1 []
  · ipureintro; exact ⟨rfl, rfl, rfl⟩
  iintro G1
  sl_exec
  iapply (issue d L X hX q fg 0 10 (by decide)) $$ G0 []
  · ipureintro; exact ⟨rfl, rfl, rfl⟩
  iintro G0
  sl_exec
  rw [wp_ret]; imodintro
  iapply HQ
  isplitl [G0]; · iexact G0
  iexact G1

end Cert.Proof.Tile
-- ==== Proof.Await.lean ====
/-
  The parts of a tile's task that wait for the gathers: one rule for a wait, and its uses part by part.
-/
module

public import proofs.«01_k».proof.Proof.Families

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords) (X : Ins F) (hX : X.OK)

section Rules
variable {α : Type}

/-- The wait for gather number `n` of a side, the waits before it made. -/
theorem await (O : CellTallies nD τ sig (HIx 1)) (W : Waits sig (HIx 1)) (q : PosShare TreeShare) (fg : S6x512.Idx → Elt F .f32)
    (σ : Fin 2) (n : ℕ) (hn : n < 12) {sem : DmaSem sig} {Q : α → sProp 𝕄}
    {src : Memref sig .scVector .hbm S4001792 .f32} {dst : Memref sig .scVector .vmem S128 .f32}
    {hsrc : src.view.WordExact} {hdst : dst.view.WordExact}
    {kont : PUnit → Prog (TpuEff nD τ sig (Elt F) Λ₀ (thr d L).2) α} :
    iprop((fam d L X hX q fg σ).issued EC sem (none : HIx 1) 32 12 (n * 128 * 32)
        ∗ Transfers.MayWaits (thr d L) (none : HIx 1) O ∗ owed (F := F) d L O W)
      ⊢ iprop(⌜dst.view.dmaCredit = 128 * 32⌝
        -∗ (iprop((fam d L X hX q fg σ).issued EC sem (none : HIx 1) 32 12 ((n + 1) * 128 * 32) ∗ owed (F := F) d L O W)
          -∗ wp frame (wpE (defs₀ (F := F)) 𝒱₀ (thr d L) none) Set.univ (kont ⟨⟩) Q)
        -∗ wp frame (wpE (defs₀ (F := F)) 𝒱₀ (thr d L) none) Set.univ
            (SparseCore.waitIndirectGather sem src dst hsrc hdst >>= kont) Q) := by
  unfold owed
  iintro ⟨HG, Hmw, ⟨%W', %hW', HO⟩⟩ %h Hk
  ihave HM := (Transfers.MayWaits.elim (SemLoc.dma sem)) $$ Hmw
  iapply (Streams.Fam.wp_wait EC 𝒱₀ none (fam d L X hX q fg σ) n hn h) $$ [HG HO HM]
  · isplitl [HG]; · iexact HG
    isplitl [HO]; · iexact HO
    iexact HM
  iintro ⟨HG, HO⟩
  iapply Hk
  isplitl [HG]; · iexact HG
  iexists _; isplitr; rotate_left; · iexact HO
  ipureintro; exact waits_insert hW'

end Rules

/-- Part 11 waits for 4 gathers. -/
theorem part11_wp (O : CellTallies nD τ sig (HIx 1)) (W : Waits sig (HIx 1)) (q : PosShare TreeShare) (fg : S6x512.Idx → Elt F .f32)
    (Q : PUnit.{1} → sProp 𝕄) :
    iprop(Transfers.MayWaits (thr d L) (none : HIx 1) O ∗ owed (F := F) d L O W ∗ awaiting d L X hX q fg 0 0) ⊢
    iprop((iprop(owed (F := F) d L O W ∗ awaiting d L X hX q fg 2 2) -∗ Q PUnit.unit)
      -∗ wp frame (wpE (defs₀ (F := F)) 𝒱₀ (thr d L) none) Set.univ (part11 (F := F) L) Q) := by
  unfold part11 awaiting
  rw [k0_part11_eq_skeleton]; unfold k0_part11_skel
  iintro ⟨#Hmw, HO, ⟨G0, G1⟩⟩ HQ
  sl_exec
  iapply (await d L X hX O W q fg 0 0 (by decide)) $$ [G0 HO] []
  · isplitl [G0]; · iexact G0
    isplitr; · iexact Hmw
    iexact HO
  · ipureintro; rfl
  iintro ⟨G0, HO⟩
  sl_exec
  iapply (await d L X hX O W q fg 1 0 (by decide)) $$ [G1 HO] []
  · isplitl [G1]; · iexact G1
    isplitr; · iexact Hmw
    iexact HO
  · ipureintro; rfl
  iintro ⟨G1, HO⟩
  sl_exec
  iapply (await d L X hX O W q fg 0 1 (by decide)) $$ [G0 HO] []
  · isplitl [G0]; · iexact G0
    isplitr; · iexact Hmw
    iexact HO
  · ipureintro; rfl
  iintro ⟨G0, HO⟩
  sl_exec
  iapply (await d L X hX O W q fg 1 1 (by decide)) $$ [G1 HO] []
  · isplitl [G1]; · iexact G1
    isplitr; · iexact Hmw
    iexact HO
  · ipureintro; rfl
  iintro ⟨G1, HO⟩
  sl_exec
  rw [wp_ret]; imodintro
  iapply HQ
  isplitl [HO]; · iexact HO
  isplitl [G0]; · iexact G0
  iexact G1

/-- Part 12 waits for 5 gathers. -/
theorem part12_wp (O : CellTallies nD τ sig (HIx 1)) (W : Waits sig (HIx 1)) (q : PosShare TreeShare) (fg : S6x512.Idx → Elt F .f32)
    (Q : PUnit.{1} → sProp 𝕄) :
    iprop(Transfers.MayWaits (thr d L) (none : HIx 1) O ∗ owed (F := F) d L O W ∗ awaiting d L X hX q fg 2 2) ⊢
    iprop((iprop(owed (F := F) d L O W ∗ awaiting d L X hX q fg 5 4) -∗ Q PUnit.unit)
      -∗ wp frame (wpE (defs₀ (F := F)) 𝒱₀ (thr d L) none) Set.univ (part12 (F := F) L) Q) := by
  unfold part12 awaiting
  rw [k0_part12_eq_skeleton]; unfold k0_part12_skel
  iintro ⟨#Hmw, HO, ⟨G0, G1⟩⟩ HQ
  sl_exec
  iapply (await d L X hX O W q fg 0 2 (by decide)) $$ [G0 HO] []
  · isplitl [G0]; · iexact G0
    isplitr; · iexact Hmw
    iexact HO
  · ipureintro; rfl
  iintro ⟨G0, HO⟩
  sl_exec
  iapply (await d L X hX O W q fg 1 2 (by decide)) $$ [G1 HO] []
  · isplitl [G1]; · iexact G1
    isplitr; · iexact Hmw
    iexact HO
  · ipureintro; rfl
  iintro ⟨G1, HO⟩
  sl_exec
  iapply (await d L X hX O W q fg 0 3 (by decide)) $$ [G0 HO] []
  · isplitl [G0]; · iexact G0
    isplitr; · iexact Hmw
    iexact HO
  · ipureintro; rfl
  iintro ⟨G0, HO⟩
  sl_exec
  iapply (await d L X hX O W q fg 1 3 (by decide)) $$ [G1 HO] []
  · isplitl [G1]; · iexact G1
    isplitr; · iexact Hmw
    iexact HO
  · ipureintro; rfl
  iintro ⟨G1, HO⟩
  sl_exec
  iapply (await d L X hX O W q fg 0 4 (by decide)) $$ [G0 HO] []
  · isplitl [G0]; · iexact G0
    isplitr; · iexact Hmw
    iexact HO
  · ipureintro; rfl
  iintro ⟨G0, HO⟩
  sl_exec
  rw [wp_ret]; imodintro
  iapply HQ
  isplitl [HO]; · iexact HO
  isplitl [G0]; · iexact G0
  iexact G1

/-- Part 13 waits for 4 gathers. -/
theorem part13_wp (O : CellTallies nD τ sig (HIx 1)) (W : Waits sig (HIx 1)) (q : PosShare TreeShare) (fg : S6x512.Idx → Elt F .f32)
    (Q : PUnit.{1} → sProp 𝕄) :
    iprop(Transfers.MayWaits (thr d L) (none : HIx 1) O ∗ owed (F := F) d L O W ∗ awaiting d L X hX q fg 5 4) ⊢
    iprop((iprop(owed (F := F) d L O W ∗ awaiting d L X hX q fg 7 6) -∗ Q PUnit.unit)
      -∗ wp frame (wpE (defs₀ (F := F)) 𝒱₀ (thr d L) none) Set.univ (part13 (F := F) L) Q) := by
  unfold part13 awaiting
  rw [k0_part13_eq_skeleton]; unfold k0_part13_skel
  iintro ⟨#Hmw, HO, ⟨G0, G1⟩⟩ HQ
  sl_exec
  iapply (await d L X hX O W q fg 1 4 (by decide)) $$ [G1 HO] []
  · isplitl [G1]; · iexact G1
    isplitr; · iexact Hmw
    iexact HO
  · ipureintro; rfl
  iintro ⟨G1, HO⟩
  sl_exec
  iapply (await d L X hX O W q fg 0 5 (by decide)) $$ [G0 HO] []
  · isplitl [G0]; · iexact G0
    isplitr; · iexact Hmw
    iexact HO
  · ipureintro; rfl
  iintro ⟨G0, HO⟩
  sl_exec
  iapply (await d L X hX O W q fg 1 5 (by decide)) $$ [G1 HO] []
  · isplitl [G1]; · iexact G1
    isplitr; · iexact Hmw
    iexact HO
  · ipureintro; rfl
  iintro ⟨G1, HO⟩
  sl_exec
  iapply (await d L X hX O W q fg 0 6 (by decide)) $$ [G0 HO] []
  · isplitl [G0]; · iexact G0
    isplitr; · iexact Hmw
    iexact HO
  · ipureintro; rfl
  iintro ⟨G0, HO⟩
  sl_exec
  rw [wp_ret]; imodintro
  iapply HQ
  isplitl [HO]; · iexact HO
  isplitl [G0]; · iexact G0
  iexact G1

/-- Part 14 waits for 5 gathers. -/
theorem part14_wp (O : CellTallies nD τ sig (HIx 1)) (W : Waits sig (HIx 1)) (q : PosShare TreeShare) (fg : S6x512.Idx → Elt F .f32)
    (Q : PUnit.{1} → sProp 𝕄) :
    iprop(Transfers.MayWaits (thr d L) (none : HIx 1) O ∗ owed (F := F) d L O W ∗ awaiting d L X hX q fg 7 6) ⊢
    iprop((iprop(owed (F := F) d L O W ∗ awaiting d L X hX q fg 9 9) -∗ Q PUnit.unit)
      -∗ wp frame (wpE (defs₀ (F := F)) 𝒱₀ (thr d L) none) Set.univ (part14 (F := F) L) Q) := by
  unfold part14 awaiting
  rw [k0_part14_eq_skeleton]; unfold k0_part14_skel
  iintro ⟨#Hmw, HO, ⟨G0, G1⟩⟩ HQ
  sl_exec
  iapply (await d L X hX O W q fg 1 6 (by decide)) $$ [G1 HO] []
  · isplitl [G1]; · iexact G1
    isplitr; · iexact Hmw
    iexact HO
  · ipureintro; rfl
  iintro ⟨G1, HO⟩
  sl_exec
  iapply (await d L X hX O W q fg 0 7 (by decide)) $$ [G0 HO] []
  · isplitl [G0]; · iexact G0
    isplitr; · iexact Hmw
    iexact HO
  · ipureintro; rfl
  iintro ⟨G0, HO⟩
  sl_exec
  iapply (await d L X hX O W q fg 1 7 (by decide)) $$ [G1 HO] []
  · isplitl [G1]; · iexact G1
    isplitr; · iexact Hmw
    iexact HO
  · ipureintro; rfl
  iintro ⟨G1, HO⟩
  sl_exec
  iapply (await d L X hX O W q fg 0 8 (by decide)) $$ [G0 HO] []
  · isplitl [G0]; · iexact G0
    isplitr; · iexact Hmw
    iexact HO
  · ipureintro; rfl
  iintro ⟨G0, HO⟩
  sl_exec
  iapply (await d L X hX O W q fg 1 8 (by decide)) $$ [G1 HO] []
  · isplitl [G1]; · iexact G1
    isplitr; · iexact Hmw
    iexact HO
  · ipureintro; rfl
  iintro ⟨G1, HO⟩
  sl_exec
  rw [wp_ret]; imodintro
  iapply HQ
  isplitl [HO]; · iexact HO
  isplitl [G0]; · iexact G0
  iexact G1

/-- Part 15 waits for 5 gathers. -/
theorem part15_wp (O : CellTallies nD τ sig (HIx 1)) (W : Waits sig (HIx 1)) (q : PosShare TreeShare) (fg : S6x512.Idx → Elt F .f32)
    (Q : PUnit.{1} → sProp 𝕄) :
    iprop(Transfers.MayWaits (thr d L) (none : HIx 1) O ∗ owed (F := F) d L O W ∗ awaiting d L X hX q fg 9 9) ⊢
    iprop((iprop(owed (F := F) d L O W ∗ awaiting d L X hX q fg 12 11) -∗ Q PUnit.unit)
      -∗ wp frame (wpE (defs₀ (F := F)) 𝒱₀ (thr d L) none) Set.univ (part15 (F := F) L) Q) := by
  unfold part15 awaiting
  rw [k0_part15_eq_skeleton]; unfold k0_part15_skel
  iintro ⟨#Hmw, HO, ⟨G0, G1⟩⟩ HQ
  sl_exec
  iapply (await d L X hX O W q fg 0 9 (by decide)) $$ [G0 HO] []
  · isplitl [G0]; · iexact G0
    isplitr; · iexact Hmw
    iexact HO
  · ipureintro; rfl
  iintro ⟨G0, HO⟩
  sl_exec
  iapply (await d L X hX O W q fg 1 9 (by decide)) $$ [G1 HO] []
  · isplitl [G1]; · iexact G1
    isplitr; · iexact Hmw
    iexact HO
  · ipureintro; rfl
  iintro ⟨G1, HO⟩
  sl_exec
  iapply (await d L X hX O W q fg 0 10 (by decide)) $$ [G0 HO] []
  · isplitl [G0]; · iexact G0
    isplitr; · iexact Hmw
    iexact HO
  · ipureintro; rfl
  iintro ⟨G0, HO⟩
  sl_exec
  iapply (await d L X hX O W q fg 1 10 (by decide)) $$ [G1 HO] []
  · isplitl [G1]; · iexact G1
    isplitr; · iexact Hmw
    iexact HO
  · ipureintro; rfl
  iintro ⟨G1, HO⟩
  sl_exec
  iapply (await d L X hX O W q fg 0 11 (by decide)) $$ [G0 HO] []
  · isplitl [G0]; · iexact G0
    isplitr; · iexact Hmw
    iexact HO
  · ipureintro; rfl
  iintro ⟨G0, HO⟩
  sl_exec
  rw [wp_ret]; imodintro
  iapply HQ
  isplitl [HO]; · iexact HO
  isplitl [G0]; · iexact G0
  iexact G1

end Cert.Proof.Tile
-- ==== Proof.Fetch.lean ====
/-
  The parts of a tile's task that start the last gathers, fetch its sensor indices, its linear terms and the
  time-to-collision table, and look the table up at the sensor indices.
-/
module

public import proofs.«01_k».proof.Proof.Build

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Rows of a buffer of six -/

/-- Row `k` of a scratch buffer of six rows, spelt as the program slices it. -/
abbrev rowAt {e : EltTy} (M : Memref sig .scVector .vmem S6x512 e) (k : ℕ) (h : ∀ a, (![k, 0] : Fin 2 → ℕ) a + S1x512.size a ≤ S6x512.size a) :
    Memref sig .scVector .vmem S512 e :=
  (M.slice (Rect.unit (s := S6x512) ![k, 0] S1x512.size h) (fun _ => rfl)).squeeze S512 squeezes_S1x512_S512

/-- The six rows of the linear terms' buffer are the whole buffer. -/
theorem lin_rows (d : Dev nD) (L : grid0.Coords) (f : S6x512.Idx → Elt F .f32) :
    (linV.view.loc (thr d L) ↦{fullShare} f : sProp 𝕄)
      = iprop(((rowAt linV 0 inb_S6x512_S1x512_0_0).view.loc (thr d L) ↦[(rowAt linV 0 inb_S6x512_S1x512_0_0).view.set]{fullShare} f)
        ∗ ((rowAt linV 1 inb_S6x512_S1x512_1_0).view.loc (thr d L) ↦[(rowAt linV 1 inb_S6x512_S1x512_1_0).view.set]{fullShare} f)
        ∗ ((rowAt linV 2 inb_S6x512_S1x512_2_0).view.loc (thr d L) ↦[(rowAt linV 2 inb_S6x512_S1x512_2_0).view.set]{fullShare} f)
        ∗ ((rowAt linV 3 inb_S6x512_S1x512_3_0).view.loc (thr d L) ↦[(rowAt linV 3 inb_S6x512_S1x512_3_0).view.set]{fullShare} f)
        ∗ ((rowAt linV 4 inb_S6x512_S1x512_4_0).view.loc (thr d L) ↦[(rowAt linV 4 inb_S6x512_S1x512_4_0).view.set]{fullShare} f)
        ∗ ((rowAt linV 5 inb_S6x512_S1x512_5_0).view.loc (thr d L) ↦[(rowAt linV 5 inb_S6x512_S1x512_5_0).view.set]{fullShare} f)) :=
  (linV_split d L fullShare f).trans (sep6 _)

variable [FloatOps F] (d : Dev nD) (L : grid0.Coords) (X : Ins F)

/-- A row fetched with a block of linear terms holds the row of the linear terms. -/
theorem lin_fetched (r : Fin 6) (M : Memref sig .scVector .hbm S49152 .f32) (fl : M.view.ty.Contents (Elt F))
    (hM : ∀ x, M.view.read (Elt F) fl x = linOf X r x) (off : Fin 1 → ℕ) (inb : ∀ a, off a + S512.size a ≤ S49152.size a)
    (hoff : off = ![16384 * (comp r).val + 1024 * (L 1).val + 512 * (L 0).val]) (f : S6x512.Idx → Elt F .f32) :
    ((rowM linV r).view.loc (thr d L) ↦[(rowM linV r).view.set]{fullShare} (rowM linV r).view.writes (Elt F) f
        [⟨Rect.whole S512, (M.slice (Rect.unit (s := S49152) off S512.size inb) (fun _ => rfl)).view.read (Elt F) fl⟩] : sProp 𝕄)
      = ((rowM linV r).view.loc (thr d L) ↦[(rowM linV r).view.set]{fullShare} linT X L) := by
  refine pointsTo_congr fun y hy => ?_
  obtain ⟨x, rfl⟩ := (mem_view_set (rowM linV r).view y).mp hy
  refine (View.read_writes_cons_hit_of_coords (rowM linV r).view f (Rect.whole S512) _ [] x x fun a => by
    show (x a).val = 0 + 1 * (x a).val; omega).trans ?_
  have e : (M.slice (Rect.unit (s := S49152) off S512.size inb) (fun _ => rfl)).view.read (Elt F) fl x
      = M.view.read (Elt F) fl ((Rect.unit (s := S49152) off S512.size inb).emb x) := rfl
  refine (e.trans (hM _)).trans ?_
  rw [rowM_emb_lin]
  unfold linT
  simp only [ix2_0, ix2_1]
  refine congrArg (linOf X r) (Rect.emb_eq_of_coords _ _ _ fun i => ?_)
  subst hoff
  match i with
  | 0 =>
    show 16384 * (comp r).val + (base L + (x 0).val) = 16384 * (comp r).val + 1024 * (L 1).val + 512 * (L 0).val + 1 * (x 0).val
    unfold base; omega

/-- All six rows fetched: the linear terms, whole. -/
theorem lin_joined (f0 f1 f2 f3 f4 f5 : S6x512.Idx → Elt F .f32) (w0 w1 w2 w3 w4 w5 : S512.Idx → Elt F .f32)
    (h0 : w0 = (linA.slice (Rect.unit (s := S49152) (k0_off4 L (BitVec.ofNat 32 0)) S512.size (k0_off4_inb L 0)) (fun _ => rfl)).view.read (Elt F) X.lA)
    (h1 : w1 = (linA.slice (Rect.unit (s := S49152) (k0_off4 L (BitVec.ofNat 32 16384)) S512.size (k0_off4_inb L 1)) (fun _ => rfl)).view.read (Elt F) X.lA)
    (h2 : w2 = (linA.slice (Rect.unit (s := S49152) (k0_off4 L (BitVec.ofNat 32 32768)) S512.size (k0_off4_inb L 2)) (fun _ => rfl)).view.read (Elt F) X.lA)
    (h3 : w3 = (linB.slice (Rect.unit (s := S49152) (k0_off4 L (BitVec.ofNat 32 0)) S512.size (k0_off4_inb L 0)) (fun _ => rfl)).view.read (Elt F) X.lB)
    (h4 : w4 = (linB.slice (Rect.unit (s := S49152) (k0_off4 L (BitVec.ofNat 32 16384)) S512.size (k0_off4_inb L 1)) (fun _ => rfl)).view.read (Elt F) X.lB)
    (h5 : w5 = (linB.slice (Rect.unit (s := S49152) (k0_off4 L (BitVec.ofNat 32 32768)) S512.size (k0_off4_inb L 2)) (fun _ => rfl)).view.read (Elt F) X.lB) :
    (iprop(((rowAt linV 0 inb_S6x512_S1x512_0_0).view.loc (thr d L) ↦[(rowAt linV 0 inb_S6x512_S1x512_0_0).view.set]{fullShare} (rowAt linV 0 inb_S6x512_S1x512_0_0).view.writes (Elt F) f0 [⟨Rect.whole S512, w0⟩])
      ∗ ((rowAt linV 1 inb_S6x512_S1x512_1_0).view.loc (thr d L) ↦[(rowAt linV 1 inb_S6x512_S1x512_1_0).view.set]{fullShare} (rowAt linV 1 inb_S6x512_S1x512_1_0).view.writes (Elt F) f1 [⟨Rect.whole S512, w1⟩])
      ∗ ((rowAt linV 2 inb_S6x512_S1x512_2_0).view.loc (thr d L) ↦[(rowAt linV 2 inb_S6x512_S1x512_2_0).view.set]{fullShare} (rowAt linV 2 inb_S6x512_S1x512_2_0).view.writes (Elt F) f2 [⟨Rect.whole S512, w2⟩])
      ∗ ((rowAt linV 3 inb_S6x512_S1x512_3_0).view.loc (thr d L) ↦[(rowAt linV 3 inb_S6x512_S1x512_3_0).view.set]{fullShare} (rowAt linV 3 inb_S6x512_S1x512_3_0).view.writes (Elt F) f3 [⟨Rect.whole S512, w3⟩])
      ∗ ((rowAt linV 4 inb_S6x512_S1x512_4_0).view.loc (thr d L) ↦[(rowAt linV 4 inb_S6x512_S1x512_4_0).view.set]{fullShare} (rowAt linV 4 inb_S6x512_S1x512_4_0).view.writes (Elt F) f4 [⟨Rect.whole S512, w4⟩])
      ∗ ((rowAt linV 5 inb_S6x512_S1x512_5_0).view.loc (thr d L) ↦[(rowAt linV 5 inb_S6x512_S1x512_5_0).view.set]{fullShare} (rowAt linV 5 inb_S6x512_S1x512_5_0).view.writes (Elt F) f5 [⟨Rect.whole S512, w5⟩])) : sProp 𝕄)
      ⊢ (linV.view.loc (thr d L) ↦{fullShare} linT X L) := by
  subst h0 h1 h2 h3 h4 h5
  rw [lin_rows]
  exact BIClass.sep_mono (Entails.of_eq (lin_fetched d L X 0 linA X.lA (fun _ => rfl) _ (k0_off4_inb L 0) (k0_off4_eq L 0) f0)) <|
    BIClass.sep_mono (Entails.of_eq (lin_fetched d L X 1 linA X.lA (fun _ => rfl) _ (k0_off4_inb L 1) (k0_off4_eq L 1) f1)) <|
    BIClass.sep_mono (Entails.of_eq (lin_fetched d L X 2 linA X.lA (fun _ => rfl) _ (k0_off4_inb L 2) (k0_off4_eq L 2) f2)) <|
    BIClass.sep_mono (Entails.of_eq (lin_fetched d L X 3 linB X.lB (fun _ => rfl) _ (k0_off4_inb L 0) (k0_off4_eq L 0) f3)) <|
    BIClass.sep_mono (Entails.of_eq (lin_fetched d L X 4 linB X.lB (fun _ => rfl) _ (k0_off4_inb L 1) (k0_off4_eq L 1) f4)) <|
    (Entails.of_eq (lin_fetched d L X 5 linB X.lB (fun _ => rfl) _ (k0_off4_inb L 2) (k0_off4_eq L 2) f5))

/-- What the fetch of the sensor indices leaves is the tile's sensor indices. -/
theorem sen_fetched (f : senV.view.ty.Contents (Elt F)) :
    senV.view.write (Elt F) f ((senH.slice (Rect.unit (s := S16384) (k0_off3 L) S512.size (k0_off3_inb L)) (fun _ => rfl)).view.read (Elt F) X.sen)
      Finset.univ = senT X L := by
  refine (View.write_whole_univ _ _ _).trans ?_
  funext y
  refine congrArg X.sen (Rect.emb_eq_of_coords _ _ _ fun i => ?_)
  have e0 : k0_off3 L 0 = 1024 * (L 1).val + 512 * (L 0).val := congrFun (k0_off3_eq L) 0
  match i with
  | 0 =>
    show base L + (y 0).val = k0_off3 L 0 + 1 * (y 0).val
    unfold base; omega

/-! ## The look-up of the time-to-collision table -/

/-- A store of sixteen elements, read back: the stored values where it reaches, what was there elsewhere. -/
theorem read_chunk1 {κ : Kind} {sp : Space} {e : EltTy} {n : ℕ} (v : View sig κ sp ⟨1, ![n]⟩ e) (f : v.ty.Contents (Elt F))
    (off : Fin 1 → ℕ) (inb : ∀ i, off i + (![16] : Fin 1 → ℕ) i ≤ (⟨1, ![n]⟩ : Shape).size i)
    (w : (⟨1, ![16]⟩ : Shape).Idx → Elt F e) (l : List (View.Piece (Elt F) ⟨1, ![n]⟩ e)) (y : (⟨1, ![n]⟩ : Shape).Idx) :
    v.read (Elt F) (v.writes (Elt F) f (⟨Rect.unit (s := ⟨1, ![n]⟩) off ![16] inb, w⟩ :: l)) y
      = if h : off 0 ≤ (y 0).val ∧ (y 0).val < off 0 + 16 then w (ix1 ⟨(y 0).val - off 0, by omega⟩)
        else v.read (Elt F) (v.writes (Elt F) f l) y := by
  split
  · rename_i h
    refine View.read_writes_cons_hit_of_coords v f _ _ l _ y fun i => ?_
    match i with
    | 0 => show (y 0).val = off 0 + 1 * ((y 0).val - off 0); omega
  · rename_i h
    exact View.read_writes_cons_miss_of_axis v f _ l y 0 (off 0) 16 rfl rfl rfl (by omega)

/-- Where group `k` of the sensor indices is read. -/
theorem k0_off5_eq : ∀ k : Fin k0_t2_loop.trips, k0_off5 k = ![16 * k.val] := by decide +kernel
/-- Where group `k` of the time-to-collision values is stored. -/
theorem k0_off6_eq : ∀ k : Fin k0_t2_loop.trips, k0_off6 k = ![16 * k.val] := by decide +kernel

/-- The sixteen sensor indices that a trip loads are the tile's at the trip's places. -/
theorem sen_chunk (k : Fin k0_t2_loop.trips) (x : S16.Idx) (y : S512.Idx) (h : (y 0).val = 16 * k.val + (x 0).val) :
    senV.view.readAt (Elt F) (Rect.unit (s := S512) (k0_off5 k) S16.size (k0_off5_inb k)).toLoadRect (senT X L) x = senT X L y := by
  rw [View.readAt_apply]
  show senT X L _ = _
  congr 1
  refine funext fun i => Fin.ext ?_
  have e0 : k0_off5 k 0 = 16 * k.val := congrFun (k0_off5_eq k) 0
  match i with
  | 0 => show k0_off5 k 0 + 1 * (x 0).val = (y 0).val; omega

/-- The sensor indices that a trip loads are in the table's range. -/
theorem sen_chk (hX : X.OK) (k : Fin k0_t2_loop.trips) :
    k0_chk1 (senV.view.readAt (Elt F) (Rect.unit (s := S512) (k0_off5 k) S16.size (k0_off5_inb k)).toLoadRect (senT X L)) := by
  intro a x
  have ha : a = 0 := Fin.ext (by have : a.val < 1 := a.isLt; show a.val = 0; omega)
  subst ha
  have hk : k.val < 32 := k.isLt
  have hx : (x 0).val < 16 := (x 0).isLt
  have e := sen_chunk L X k x (ix1 ⟨16 * k.val + (x 0).val, by omega⟩) rfl
  exact lt_of_eq_of_lt (congrArg BitVec.toNat e) (hX.2 _)

/-- The table held whole, spelt as an indexed load of it needs. -/
theorem ttc_access :
    (ttcV.view.loc (thr d L) ↦{fullShare} X.tt : sProp 𝕄) = ((ttcV.access (.whole S26)).loc (thr d L) ↦{fullShare} X.tt) := rfl

/-- A trip's store extends the values in place by sixteen. -/
theorem look_step (hX : X.OK) (k : Fin k0_t2_loop.trips) (f : S512.Idx → Elt F .f32)
    (h : ∀ y : S512.Idx, (y 0).val < 16 * k.val → f y = ttoT X L y) (y : S512.Idx) (hy : (y 0).val < 16 * (k.val + 1)) :
    ttoV.view.writes (Elt F) f [⟨Rect.unit (s := S512) (k0_off6 k) S16.size (k0_off6_inb k),
      Idealize.ShloMosaic.loadIdx ((ttcV.access (.whole S26)).read (Elt F) X.tt)
        ![senV.view.readAt (Elt F) (Rect.unit (s := S512) (k0_off5 k) S16.size (k0_off5_inb k)).toLoadRect (senT X L)]
        (k0_idx1_inb _ (sen_chk L X hX k))⟩] y = ttoT X L y := by
  have e0 : k0_off6 k 0 = 16 * k.val := congrFun (k0_off6_eq k) 0
  refine (read_chunk1 ttoV.view f _ _ _ [] y).trans ?_
  split
  · rename_i hh
    have e := sen_chunk L X k (ix1 ⟨(y 0).val - k0_off6 k 0, by omega⟩) y (by
      show (y 0).val = 16 * k.val + ((y 0).val - k0_off6 k 0); omega)
    have e2 : (senT X L y).toNat < 26 := hX.2 _
    show X.tt _ = X.tt _
    refine congrArg X.tt (funext fun a => Fin.ext ?_)
    match a with
    | 0 =>
      have e3 := congrArg (BitVec.toNat (w := 32)) e
      refine Eq.trans (b := 0 + 1 * (senT X L y).toNat) (congrArg (fun n : ℕ => 0 + 1 * n) e3) ?_
      show _ = (senT X L y).toNat % 26
      omega
  · rename_i hh
    exact h y (by omega)

/-- Between trips of the look-up: the first `16 n` values are in place. -/
def lookInv (n : Nat) (_ : PUnit) : sProp 𝕄 :=
  iprop((senV.view.loc (thr d L) ↦{fullShare} senT X L)
    ∗ (ttcV.view.loc (thr d L) ↦{fullShare} X.tt)
    ∗ (∃ f, ⌜∀ y : S512.Idx, (y 0).val < 16 * n → f y = ttoT X L y⌝ ∗ ttoV.view.loc (thr d L) ↦{fullShare} f))

set_option maxHeartbeats 2000000 in
/-- The last three gathers are started, the fetches made one after another, and the table looked up. -/
theorem fetch_wp (hX : X.OK) (O : CellTallies nD τ sig (HIx 1)) (W : Waits sig (HIx 1)) (q : PosShare TreeShare)
    (fg : S6x512.Idx → Elt F .f32) (v8 v9 v10 : BitVec 32) (Q : PUnit.{1} → sProp 𝕄) :
    iprop(Transfers.MayWaits (thr d L) (none : HIx 1) O ∗ owed (F := F) d L O W ∗ issuing d L X hX q fg 11 10
      ∗ semVal (thr d L, SemLoc.dma cc0_scoped1.sem) 0 ∗ semVal (thr d L, SemLoc.dma cc0_scoped2.sem) 0
      ∗ semVal (thr d L, SemLoc.dma cc0_scoped3.sem) 0 ∗ semVal (thr d L, SemLoc.dma cc0_scoped4.sem) 0
      ∗ semVal (thr d L, SemLoc.dma cc0_scoped5.sem) 0 ∗ semVal (thr d L, SemLoc.dma cc0_scoped6.sem) 0
      ∗ semVal (thr d L, SemLoc.dma cc0_scoped7.sem) 0 ∗ semVal (thr d L, SemLoc.dma cc0_scoped8.sem) 0
      ∗ (senH.view.loc (thr d L) ↦{q} X.sen) ∗ (linA.view.loc (thr d L) ↦{q} X.lA) ∗ (linB.view.loc (thr d L) ↦{q} X.lB)
      ∗ (ttcH.view.loc (thr d L) ↦{q} X.tt)
      ∗ (∃ f, senV.view.loc (thr d L) ↦{fullShare} f)
      ∗ (∃ f, linV.view.loc (thr d L) ↦{fullShare} f)
      ∗ (∃ f, ttcV.view.loc (thr d L) ↦{fullShare} f)
      ∗ (∃ f, ttoV.view.loc (thr d L) ↦{fullShare} f)) ⊢
    iprop((iprop(owed (F := F) d L O W ∗ awaiting d L X hX q fg 0 0
        ∗ semVal (thr d L, SemLoc.dma cc0_scoped1.sem) 0 ∗ semVal (thr d L, SemLoc.dma cc0_scoped2.sem) 0
        ∗ semVal (thr d L, SemLoc.dma cc0_scoped3.sem) 0 ∗ semVal (thr d L, SemLoc.dma cc0_scoped4.sem) 0
        ∗ semVal (thr d L, SemLoc.dma cc0_scoped5.sem) 0 ∗ semVal (thr d L, SemLoc.dma cc0_scoped6.sem) 0
        ∗ semVal (thr d L, SemLoc.dma cc0_scoped7.sem) 0 ∗ semVal (thr d L, SemLoc.dma cc0_scoped8.sem) 0
        ∗ (senH.view.loc (thr d L) ↦{q} X.sen) ∗ (linA.view.loc (thr d L) ↦{q} X.lA) ∗ (linB.view.loc (thr d L) ↦{q} X.lB)
        ∗ (ttcH.view.loc (thr d L) ↦{q} X.tt)
        ∗ (senV.view.loc (thr d L) ↦{fullShare} senT X L)
        ∗ (linV.view.loc (thr d L) ↦{fullShare} linT X L)
        ∗ (ttcV.view.loc (thr d L) ↦{fullShare} X.tt)
        ∗ (ttoV.view.loc (thr d L) ↦{fullShare} ttoT X L)) -∗ Q PUnit.unit)
      -∗ wp frame (wpE (defs₀ (F := F)) 𝒱₀ (thr d L) none) Set.univ (part8 (F := F) L v8) fun _ =>
          wp frame (wpE (defs₀ (F := F)) 𝒱₀ (thr d L) none) Set.univ (part9 (F := F) L v9) fun _ =>
          wp frame (wpE (defs₀ (F := F)) 𝒱₀ (thr d L) none) Set.univ (part10 (F := F) L v10) Q) := by
  unfold part8 part9 part10 issuing owed
  rw [k0_part8_eq_skeleton, k0_part9_eq_skeleton, k0_part10_eq_skeleton]; unfold k0_part8_skel
  iintro ⟨#Hmw, ⟨%W', %hW', HO⟩, ⟨G0, G1⟩, S1, S2, S3, S4, S5, S6, S7, S8, Hsen, HlA, HlB, Htt, ⟨%fs, Hs⟩, ⟨%fl, Hl⟩, ⟨%ft, Ht⟩, ⟨%fo, Ho⟩⟩ HQ
  ihave Hl := (Entails.of_eq (lin_rows d L fl)) $$ Hl
  icases Hl with ⟨L0, L1, L2, L3, L4, L5⟩
  sl_exec
  iapply (issue d L X hX q fg 1 10 (by decide)) $$ G1 []
  · ipureintro; exact ⟨rfl, rfl, rfl⟩
  iintro G1
  sl_exec
  iapply (issue d L X hX q fg 0 11 (by decide)) $$ G0 []
  · ipureintro; exact ⟨rfl, rfl, rfl⟩
  iintro G0
  sl_exec
  iapply (issue d L X hX q fg 1 11 (by decide)) $$ G1 []
  · ipureintro; exact ⟨rfl, rfl, rfl⟩
  iintro G1
  sl_exec
  ihave Hl := (lin_joined d L X _ _ _ _ _ _ (fetch_wp.sl.dma0_1 L X) (fetch_wp.sl.dma0_3 L X) (fetch_wp.sl.dma0_5 L X) (fetch_wp.sl.dma0_2 L X) (fetch_wp.sl.dma0_4 L X) (fetch_wp.sl.dma0_6 L X) rfl rfl rfl rfl rfl rfl) $$ [L0 L1 L2 L3 L4 L5]
  · isplitl [L0]; · iexact L0
    isplitl [L1]; · iexact L1
    isplitl [L2]; · iexact L2
    isplitl [L3]; · iexact L3
    isplitl [L4]; · iexact L4
    iexact L5
  sl_for (lookInv d L X) $$ [Hs Ht Ho]
  case region =>
    intro k _
    unfold lookInv
    iintro ⟨Hs, Ht, ⟨%fo, %hfo, Ho⟩⟩
    sl_exec
    rw [wp_assume_of _ _ _ _ (sen_chk L X hX k)]
    ihave Ht := (Entails.of_eq (ttc_access d L X)) $$ Ht
    iapply (SparseCore.wp_vectorLoadIdx 𝒱₀ (thr d L) none Set.univ (base := ttcV) (S := Finset.univ) (q := fullShare)
      (Finset.subset_univ _)) $$ Ht; iintro Ht
    ihave Ht := (Entails.of_eq (ttc_access d L X).symm) $$ Ht
    sl_exec
    sl_step
    isplitl [Hs]; · iexact Hs
    isplitl [Ht]; · iexact Ht
    iexists _
    isplitr
    rotate_left
    · iexact Ho
    ipureintro
    exact look_step L X hX k fo hfo
  · unfold lookInv
    isplitl [Hs]
    · rw [show (senV.view.write (Elt F) fs (fetch_wp.sl.dma0 L X) Finset.univ) = senT X L from sen_fetched L X fs]; iexact Hs
    isplitl [Ht]
    · rw [show (ttcV.view.write (Elt F) ft (fetch_wp.sl.dma0_7 X) Finset.univ) = X.tt from View.write_whole_univ _ _ _]; iexact Ht
    iexists _; isplitr; rotate_left; · iexact Ho
    ipureintro; exact fun y hy => absurd hy (by omega)
  iintro %_ HI
  unfold lookInv
  icases HI with ⟨Hs, Ht, ⟨%f, %hf, Ho⟩⟩
  obtain rfl : f = ttoT X L := funext fun y => hf y (by
    have h0 : (y 0).val < 512 := (y 0).isLt
    show _ < 16 * 32; omega)
  sl_exec
  rw [wp_ret]; imodintro
  iapply HQ
  isplitl [HO]; · iexists _; isplitr; rotate_left; · iexact HO
                  ipureintro
                  iterate 8 refine waits_insert ?_
                  exact hW'
  unfold awaiting
  isplitl [G0 G1]
  · isplitl [G0]; · iexact G0
    iexact G1
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [Hsen]; · iexact Hsen
  isplitl [HlA]; · iexact HlA
  isplitl [HlB]; · iexact HlB
  isplitl [Htt]; · iexact Htt
  isplitl [Hs]; · iexact Hs
  isplitl [Hl]; · iexact Hl
  isplitl [Ht]; · iexact Ht
  iexact Ho

end Cert.Proof.Tile
-- ==== Proof.Finish.lean ====
/-
  The parts of a tile's task that wait for the last gather, add the linear terms to the gathered values, and copy the
  rows of sums out.
-/
module

public import proofs.«01_k».proof.Proof.Await
public import proofs.«01_k».proof.Proof.Fetch

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pieces of the results that a tile writes -/

/-- The tile's block of row `k` of the component rows, spelt as the program slices it. -/
abbrev outAt (L : grid0.Coords) (k : ℕ) (h : ∀ a, (![k, 0] : Fin 2 → ℕ) a + S1x16384.size a ≤ S6x16384.size a) :
    Memref sig .scVector .hbm S512 .f32 :=
  ((outH.slice (Rect.unit (s := S6x16384) ![k, 0] S1x16384.size h) (fun _ => rfl)).squeeze S16384 squeezes_S1x16384_S16384).slice
    (Rect.unit (s := S16384) (k0_off3 L) S512.size (k0_off3_inb L)) (fun _ => rfl)

/-- The tile's block of the time-to-collision values. -/
abbrev ttoAt (L : grid0.Coords) : Memref sig .scVector .hbm S512 .f32 :=
  ttoH.slice (Rect.unit (s := S16384) (k0_off3 L) S512.size (k0_off3_inb L)) (fun _ => rfl)

/-- A tile's copies start at its base. -/
theorem k0_off3_base (L : grid0.Coords) : k0_off3 L 0 = base L := congrFun (k0_off3_eq L) 0

/-- The part of an output row that a tile writes, index by index. -/
theorem outAt_emb (L : grid0.Coords) (r : Fin 6) (h : ∀ a, (![r.val, 0] : Fin 2 → ℕ) a + S1x16384.size a ≤ S6x16384.size a) (x : S512.Idx) :
    (outAt L r.val h).view.emb x = ix2 r (elt L (x 0)) := by
  refine (block_emb ((outH.slice (Rect.unit (s := S6x16384) ![r.val, 0] S1x16384.size h) (fun _ => rfl)).squeeze S16384
    squeezes_S1x16384_S16384).view (k0_off3 L) (k0_off3_inb L) x).trans ?_
  refine (row_emb outH.view r h _ _).trans ?_
  exact congrArg (ix2 r) (Fin.ext (congrArg (· + (x 0).val) (k0_off3_base L)))

/-- The part of the second result that a tile writes, index by index. -/
theorem ttoAt_emb (L : grid0.Coords) (x : S512.Idx) : (ttoAt L).view.emb x = ix1 (elt L (x 0)) := by
  refine (block_emb ttoH.view (k0_off3 L) (k0_off3_inb L) x).trans ?_
  exact congrArg ix1 (Fin.ext (congrArg (· + (x 0).val) (k0_off3_base L)))

variable [FloatOps F] (d : Dev nD) (L : grid0.Coords) (X : Ins F)

/-- A row of sums copied out is the tile's block of that component row. -/
theorem out_stored (r : Fin 6) (h : ∀ a, (![r.val, 0] : Fin 2 → ℕ) a + S1x16384.size a ≤ S6x16384.size a)
    (h' : ∀ a, (![r.val, 0] : Fin 2 → ℕ) a + S1x512.size a ≤ S6x512.size a) (f : S6x16384.Idx → Elt F .f32) :
    ((outAt L r.val h).view.loc (thr d L) ↦[(outAt L r.val h).view.set]{fullShare} (outAt L r.val h).view.writes (Elt F) f
        [⟨Rect.whole S512, (rowAt outV r.val h').view.read (Elt F) (outT X L)⟩] : sProp 𝕄)
      = ((outAt L r.val h).view.loc (thr d L) ↦[(outAt L r.val h).view.set]{fullShare} OUT X) := by
  refine pointsTo_congr fun y hy => ?_
  obtain ⟨x, rfl⟩ := (mem_view_set (outAt L r.val h).view y).mp hy
  refine (View.read_writes_cons_hit_of_coords (outAt L r.val h).view f (Rect.whole S512) _ [] x x fun a => by
    show (x a).val = 0 + 1 * (x a).val; omega).trans ?_
  refine (congrArg (outT X L) (rowM_emb_out r x)).trans ?_
  exact (outT_eq X L r (x 0)).trans (congrArg (OUT X) (outAt_emb L r h x).symm)

/-- The same, the row and what was copied given by name. -/
theorem out_done (k : ℕ) (hk : k < 6) (h : ∀ a, (![k, 0] : Fin 2 → ℕ) a + S1x16384.size a ≤ S6x16384.size a)
    (h' : ∀ a, (![k, 0] : Fin 2 → ℕ) a + S1x512.size a ≤ S6x512.size a) (f : S6x16384.Idx → Elt F .f32) (w : S512.Idx → Elt F .f32)
    (hw : w = (rowAt outV k h').view.read (Elt F) (outT X L)) :
    ((outAt L k h).view.loc (thr d L) ↦[(outAt L k h).view.set]{fullShare} (outAt L k h).view.writes (Elt F) f [⟨Rect.whole S512, w⟩] : sProp 𝕄)
      ⊢ ((outAt L k h).view.loc (thr d L) ↦[(outAt L k h).view.set]{fullShare} OUT X) := by
  subst hw
  exact Entails.of_eq (out_stored d L X ⟨k, hk⟩ h h' f)

/-- The time-to-collision values copied out are the tile's block of them. -/
theorem tto_stored (f : S16384.Idx → Elt F .f32) :
    ((ttoAt L).view.loc (thr d L) ↦[(ttoAt L).view.set]{fullShare} (ttoAt L).view.writes (Elt F) f
        [⟨Rect.whole S512, ttoV.view.read (Elt F) (ttoT X L)⟩] : sProp 𝕄)
      = ((ttoAt L).view.loc (thr d L) ↦[(ttoAt L).view.set]{fullShare} TTO X) := by
  refine pointsTo_congr fun y hy => ?_
  obtain ⟨x, rfl⟩ := (mem_view_set (ttoAt L).view y).mp hy
  refine (View.read_writes_cons_hit_of_coords (ttoAt L).view f (Rect.whole S512) _ [] x x fun a => by
    show (x a).val = 0 + 1 * (x a).val; omega).trans ?_
  rw [ttoAt_emb]
  rfl

/-! ## The sums -/

/-- Before the store to row `r` of trip `k`: the columns of the trips before it are in place, and in the trip's columns
    the rows before row `r`. -/
def RowsDone (r k : ℕ) (f : S6x512.Idx → Elt F .f32) : Prop :=
  ∀ y : S6x512.Idx, (y 1).val < 16 * k ∨ ((y 1).val < 16 * (k + 1) ∧ (y 0).val < r) → f y = outT X L y

/-- A sum of sixteen gathered values and linear terms, as a trip stores it. -/
theorem add_val (r k : ℕ) (off : Fin 2 → ℕ) (hoff : off = ![r, 16 * k]) (inb : ∀ i, off i + S1x16.size i ≤ S6x512.size i)
    (x : S1x16.Idx) (y : S6x512.Idx) (h0 : (y 0).val = r) (h1 : (y 1).val = 16 * k + (x 1).val) :
    FloatOps.addf (φ := .f32)
        (gatV.view.readAt (Elt F) (Rect.unit (s := S6x512) off S1x16.size inb).toLoadRect (gatT X L)
          (Shape.reshapeEquiv shapeCasts_S1x16_S16 (Shape.reshapeEquiv shapeCasts_S16_S1x16 x)))
        (linV.view.readAt (Elt F) (Rect.unit (s := S6x512) off S1x16.size inb).toLoadRect (linT X L)
          (Shape.reshapeEquiv shapeCasts_S1x16_S16 (Shape.reshapeEquiv shapeCasts_S16_S1x16 x)))
      = outT X L y := by
  subst hoff
  rw [chunk_back]
  exact congrArg₂ (FloatOps.addf (φ := .f32)) (load_chunk gatV.view (gatT X L) _ inb x y h0 h1) (load_chunk linV.view (linT X L) _ inb x y h0 h1)

/-- A trip's store to row `r`. -/
theorem add_row (r k : ℕ) (f : S6x512.Idx → Elt F .f32) (off : Fin 2 → ℕ) (hoff : off = ![r, 16 * k])
    (inb : ∀ i, off i + S1x16.size i ≤ S6x512.size i) (w : S1x16.Idx → Elt F .f32)
    (hw : ∀ (x : S1x16.Idx) (y : S6x512.Idx), (y 0).val = r → (y 1).val = 16 * k + (x 1).val → w x = outT X L y)
    (l : List (View.Piece (Elt F) S6x512 .f32)) (h : RowsDone L X r k (outV.view.writes (Elt F) f l)) :
    RowsDone L X (r + 1) k (outV.view.writes (Elt F) f (⟨Rect.unit (s := S6x512) off S1x16.size inb, w⟩ :: l)) := by
  subst hoff
  intro y hy
  refine (read_chunk outV.view f _ inb w l y).trans ?_
  split
  · rename_i hh
    have e0 : (y 0).val = r := hh.1
    have e1 : 16 * k ≤ (y 1).val := hh.2.1
    refine hw _ y e0 ?_
    show (y 1).val = 16 * k + ((y 1).val - 16 * k)
    omega
  · rename_i hh
    refine h y ?_
    have hh' : ¬ ((y 0).val = r ∧ 16 * k ≤ (y 1).val ∧ (y 1).val < 16 * k + 16) := hh
    omega

/-- All six rows of a trip's columns in place: the next trip's state. -/
theorem rows_next (k : ℕ) (f : S6x512.Idx → Elt F .f32) (h : RowsDone L X 6 k f) : RowsDone L X 0 (k + 1) f := fun y hy => by
  have h0 : (y 0).val < 6 := (y 0).isLt
  exact h y (by omega)

/-- Between trips of the sums: the first `16 n` columns are in place. -/
def addInv (n : Nat) (_ : PUnit) : sProp 𝕄 :=
  iprop((gatV.view.loc (thr d L) ↦{fullShare} gatT X L)
    ∗ (linV.view.loc (thr d L) ↦{fullShare} linT X L)
    ∗ (∃ f, ⌜RowsDone L X 0 n f⌝ ∗ outV.view.loc (thr d L) ↦{fullShare} f))

set_option maxHeartbeats 4000000 in
/-- The last wait, the sums, and the first five rows of them copied out. -/
theorem sums_wp (hX : X.OK) (O : CellTallies nD τ sig (HIx 1)) (W : Waits sig (HIx 1)) (q : PosShare TreeShare)
    (fg : S6x512.Idx → Elt F .f32) (Q : PUnit.{1} → sProp 𝕄) :
    iprop(Transfers.MayWaits (thr d L) (none : HIx 1) O ∗ owed (F := F) d L O W ∗ awaiting d L X hX q fg 12 11
      ∗ semVal (thr d L, SemLoc.dma cc0_scoped9.sem) 0
      ∗ semVal (thr d L, SemLoc.dma cc0_scoped10.sem) 0
      ∗ semVal (thr d L, SemLoc.dma cc0_scoped11.sem) 0
      ∗ semVal (thr d L, SemLoc.dma cc0_scoped12.sem) 0
      ∗ semVal (thr d L, SemLoc.dma cc0_scoped13.sem) 0
      ∗ (linV.view.loc (thr d L) ↦{fullShare} linT X L)
      ∗ (∃ f, outV.view.loc (thr d L) ↦{fullShare} f)
      ∗ (∃ f, ((outAt L 0 inb_S6x16384_S1x16384_0_0).view.loc (thr d L) ↦[(outAt L 0 inb_S6x16384_S1x16384_0_0).view.set]{fullShare} f))
      ∗ (∃ f, ((outAt L 1 inb_S6x16384_S1x16384_1_0).view.loc (thr d L) ↦[(outAt L 1 inb_S6x16384_S1x16384_1_0).view.set]{fullShare} f))
      ∗ (∃ f, ((outAt L 2 inb_S6x16384_S1x16384_2_0).view.loc (thr d L) ↦[(outAt L 2 inb_S6x16384_S1x16384_2_0).view.set]{fullShare} f))
      ∗ (∃ f, ((outAt L 3 inb_S6x16384_S1x16384_3_0).view.loc (thr d L) ↦[(outAt L 3 inb_S6x16384_S1x16384_3_0).view.set]{fullShare} f))
      ∗ (∃ f, ((outAt L 4 inb_S6x16384_S1x16384_4_0).view.loc (thr d L) ↦[(outAt L 4 inb_S6x16384_S1x16384_4_0).view.set]{fullShare} f))) ⊢
    iprop((iprop(owed (F := F) d L O W
        ∗ ((tabA.view.loc (thr d L) ↦{q} X.tA) ∗ (tabB.view.loc (thr d L) ↦{q} X.tB) ∗ (gatV.view.loc (thr d L) ↦{fullShare} gatT X L)
          ∗ (posV0.view.loc (thr d L) ↦{fullShare} posT X L 0) ∗ (posV1.view.loc (thr d L) ↦{fullShare} posT X L 1)
          ∗ (posV2.view.loc (thr d L) ↦{fullShare} posT X L 2)
          ∗ semVal (thr d L, SemLoc.dma cc0_scratch10.sem) 0 ∗ semVal (thr d L, SemLoc.dma cc0_scratch11.sem) 0)
        ∗ semVal (thr d L, SemLoc.dma cc0_scoped9.sem) 0
        ∗ semVal (thr d L, SemLoc.dma cc0_scoped10.sem) 0
        ∗ semVal (thr d L, SemLoc.dma cc0_scoped11.sem) 0
        ∗ semVal (thr d L, SemLoc.dma cc0_scoped12.sem) 0
        ∗ semVal (thr d L, SemLoc.dma cc0_scoped13.sem) 0
        ∗ (linV.view.loc (thr d L) ↦{fullShare} linT X L)
        ∗ (outV.view.loc (thr d L) ↦{fullShare} outT X L)
        ∗ ((outAt L 0 inb_S6x16384_S1x16384_0_0).view.loc (thr d L) ↦[(outAt L 0 inb_S6x16384_S1x16384_0_0).view.set]{fullShare} OUT X)
        ∗ ((outAt L 1 inb_S6x16384_S1x16384_1_0).view.loc (thr d L) ↦[(outAt L 1 inb_S6x16384_S1x16384_1_0).view.set]{fullShare} OUT X)
        ∗ ((outAt L 2 inb_S6x16384_S1x16384_2_0).view.loc (thr d L) ↦[(outAt L 2 inb_S6x16384_S1x16384_2_0).view.set]{fullShare} OUT X)
        ∗ ((outAt L 3 inb_S6x16384_S1x16384_3_0).view.loc (thr d L) ↦[(outAt L 3 inb_S6x16384_S1x16384_3_0).view.set]{fullShare} OUT X)
        ∗ ((outAt L 4 inb_S6x16384_S1x16384_4_0).view.loc (thr d L) ↦[(outAt L 4 inb_S6x16384_S1x16384_4_0).view.set]{fullShare} OUT X)) -∗ Q PUnit.unit)
      -∗ wp frame (wpE (defs₀ (F := F)) 𝒱₀ (thr d L) none) Set.univ (part16 (F := F) L) fun _ =>
          wp frame (wpE (defs₀ (F := F)) 𝒱₀ (thr d L) none) Set.univ (part17 (F := F) L) fun _ =>
          wp frame (wpE (defs₀ (F := F)) 𝒱₀ (thr d L) none) Set.univ (part18 (F := F) L) Q) := by
  unfold part16 part17 part18 awaiting
  rw [k0_part16_eq_skeleton, k0_part17_eq_skeleton, k0_part18_eq_skeleton]; unfold k0_part16_skel
  iintro ⟨#Hmw, HO, ⟨G0, G1⟩, S9, S10, S11, S12, S13, Hl, ⟨%fo, Ho⟩, ⟨%p0, P0⟩, ⟨%p1, P1⟩, ⟨%p2, P2⟩, ⟨%p3, P3⟩, ⟨%p4, P4⟩⟩ HQ
  sl_exec
  iapply (await d L X hX O W q fg 1 11 (by decide)) $$ [G1 HO] []
  · isplitl [G1]; · iexact G1
    isplitr; · iexact Hmw
    iexact HO
  · ipureintro; rfl
  iintro ⟨G1, HO⟩
  imod (awaiting_end d L X hX q fg) $$ [G0 G1] with HE
  · unfold awaiting
    isplitl [G0]; · iexact G0
    iexact G1
  icases HE with ⟨HA, HB, Hg, H0, H1, H2, Hs0, Hs1⟩
  unfold owed
  icases HO with ⟨%W', %hW', HO⟩
  sl_exec
  sl_for (addInv d L X) $$ [Hg Hl Ho]
  case region =>
    intro k _
    unfold addInv
    iintro ⟨Hg, Hl, ⟨%fo, %hfo, Ho⟩⟩
    sl_exec
    sl_step
    isplitl [Hg]; · iexact Hg
    isplitl [Hl]; · iexact Hl
    iexists _
    isplitr
    rotate_left
    · iexact Ho
    ipureintro
    have h0 : RowsDone L X 0 k.val (outV.view.writes (Elt F) fo []) := hfo
    have h1 := add_row L X 0 k fo _ (k0_off7_eq k) (k0_off7_inb k) _ (fun x y => add_val L X 0 k _ (k0_off7_eq k) (k0_off7_inb k) x y) _ h0
    have h2 := add_row L X 1 k fo _ (k0_off8_eq k) (k0_off8_inb k) _ (fun x y => add_val L X 1 k _ (k0_off8_eq k) (k0_off8_inb k) x y) _ h1
    have h3 := add_row L X 2 k fo _ (k0_off9_eq k) (k0_off9_inb k) _ (fun x y => add_val L X 2 k _ (k0_off9_eq k) (k0_off9_inb k) x y) _ h2
    have h4 := add_row L X 3 k fo _ (k0_off10_eq k) (k0_off10_inb k) _ (fun x y => add_val L X 3 k _ (k0_off10_eq k) (k0_off10_inb k) x y) _ h3
    have h5 := add_row L X 4 k fo _ (k0_off11_eq k) (k0_off11_inb k) _ (fun x y => add_val L X 4 k _ (k0_off11_eq k) (k0_off11_inb k) x y) _ h4
    have h6 := add_row L X 5 k fo _ (k0_off12_eq k) (k0_off12_inb k) _ (fun x y => add_val L X 5 k _ (k0_off12_eq k) (k0_off12_inb k) x y) _ h5
    exact rows_next L X k _ h6
  · unfold addInv
    isplitl [Hg]; · iexact Hg
    isplitl [Hl]; · iexact Hl
    iexists _; isplitr; rotate_left; · iexact Ho
    ipureintro; exact fun y hy => absurd hy (by omega)
  iintro %_ HI
  unfold addInv
  icases HI with ⟨Hg, Hl, ⟨%f, %hf, Ho⟩⟩
  obtain rfl : f = outT X L := funext fun y => hf y (.inl (by
    have h1 : (y 1).val < 512 := (y 1).isLt
    show _ < 16 * 32; omega))
  sl_exec
  ihave P0 := (out_done d L X 0 (by decide) _ inb_S6x512_S1x512_0_0 _ (sums_wp.sl.dma0 L X) rfl) $$ P0
  ihave P1 := (out_done d L X 1 (by decide) _ inb_S6x512_S1x512_1_0 _ (sums_wp.sl.dma0_1 L X) rfl) $$ P1
  ihave P2 := (out_done d L X 2 (by decide) _ inb_S6x512_S1x512_2_0 _ (sums_wp.sl.dma0_2 L X) rfl) $$ P2
  ihave P3 := (out_done d L X 3 (by decide) _ inb_S6x512_S1x512_3_0 _ (sums_wp.sl.dma0_3 L X) rfl) $$ P3
  ihave P4 := (out_done d L X 4 (by decide) _ inb_S6x512_S1x512_4_0 _ (sums_wp.sl.dma0_4 L X) rfl) $$ P4
  rw [wp_ret]; imodintro
  iapply HQ
  isplitl [HO]; · iexists _; isplitr; rotate_left; · iexact HO
                  ipureintro
                  iterate 5 refine waits_insert ?_
                  exact hW'
  isplitl [HA HB Hg H0 H1 H2 Hs0 Hs1]
  · isplitl [HA]; · iexact HA
    isplitl [HB]; · iexact HB
    isplitl [Hg]; · iexact Hg
    isplitl [H0]; · iexact H0
    isplitl [H1]; · iexact H1
    isplitl [H2]; · iexact H2
    isplitl [Hs0]; · iexact Hs0
    iexact Hs1
  isplitl [S9]; · iexact S9
  isplitl [S10]; · iexact S10
  isplitl [S11]; · iexact S11
  isplitl [S12]; · iexact S12
  isplitl [S13]; · iexact S13
  isplitl [Hl]; · iexact Hl
  isplitl [Ho]; · iexact Ho
  isplitl [P0]; · iexact P0
  isplitl [P1]; · iexact P1
  isplitl [P2]; · iexact P2
  isplitl [P3]; · iexact P3
  iexact P4

end Cert.Proof.Tile
-- ==== Proof.Body.lean ====
/-
  A tile's task as a whole: from the inputs at a share and its pieces of the results, to the pieces holding the results.
-/
module

public import proofs.«01_k».proof.Proof.Issue
public import proofs.«01_k».proof.Proof.Finish

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a tile holds -/

/-- The tile's scratch buffers, each at some contents, and the rest of what it owns. -/
theorem scratch_eq (d : Dev nD) (L : grid0.Coords) : ∃ R : sProp 𝕄, (ownBufs (thr d L) : sProp 𝕄) = iprop(
      (∃ f, camV.view.loc (thr d L) ↦{fullShare} f)
      ∗ (∃ f, posV0.view.loc (thr d L) ↦{fullShare} f)
      ∗ (∃ f, posV1.view.loc (thr d L) ↦{fullShare} f)
      ∗ (∃ f, posV2.view.loc (thr d L) ↦{fullShare} f)
      ∗ (∃ f, senV.view.loc (thr d L) ↦{fullShare} f)
      ∗ (∃ f, gatV.view.loc (thr d L) ↦{fullShare} f)
      ∗ (∃ f, linV.view.loc (thr d L) ↦{fullShare} f)
      ∗ (∃ f, outV.view.loc (thr d L) ↦{fullShare} f)
      ∗ (∃ f, ttoV.view.loc (thr d L) ↦{fullShare} f)
      ∗ (∃ f, ttcV.view.loc (thr d L) ↦{fullShare} f)
      ∗ R) :=
  ⟨_, ownBufs_V d L⟩

/-- The tile's semaphores, each at zero, and the rest of what it owns. -/
theorem sems_eq (d : Dev nD) (L : grid0.Coords) : ∃ R : sProp 𝕄, (ownSems0 (thr d L) : sProp 𝕄) = iprop(
      semVal (thr d L, SemLoc.dma cc0_scratch10.sem) 0
      ∗ semVal (thr d L, SemLoc.dma cc0_scratch11.sem) 0
      ∗ semVal (thr d L, SemLoc.dma cc0_scoped0.sem) 0
      ∗ semVal (thr d L, SemLoc.dma cc0_scoped1.sem) 0
      ∗ semVal (thr d L, SemLoc.dma cc0_scoped2.sem) 0
      ∗ semVal (thr d L, SemLoc.dma cc0_scoped3.sem) 0
      ∗ semVal (thr d L, SemLoc.dma cc0_scoped4.sem) 0
      ∗ semVal (thr d L, SemLoc.dma cc0_scoped5.sem) 0
      ∗ semVal (thr d L, SemLoc.dma cc0_scoped6.sem) 0
      ∗ semVal (thr d L, SemLoc.dma cc0_scoped7.sem) 0
      ∗ semVal (thr d L, SemLoc.dma cc0_scoped8.sem) 0
      ∗ semVal (thr d L, SemLoc.dma cc0_scoped9.sem) 0
      ∗ semVal (thr d L, SemLoc.dma cc0_scoped10.sem) 0
      ∗ semVal (thr d L, SemLoc.dma cc0_scoped11.sem) 0
      ∗ semVal (thr d L, SemLoc.dma cc0_scoped12.sem) 0
      ∗ semVal (thr d L, SemLoc.dma cc0_scoped13.sem) 0
      ∗ semVal (thr d L, SemLoc.dma cc0_scoped14.sem) 0
      ∗ semVal (thr d L, SemLoc.dma cc0_scoped15.sem) 0
      ∗ R) :=
  ⟨_, ownSems0_V d L⟩

/-- The seven inputs at a share. -/
def inputs (d : Dev nD) (L : grid0.Coords) (X : Ins F) (q : PosShare TreeShare) : sProp 𝕄 :=
  iprop((tabA.view.loc (thr d L) ↦{q} X.tA)
    ∗ (tabB.view.loc (thr d L) ↦{q} X.tB)
    ∗ (linA.view.loc (thr d L) ↦{q} X.lA)
    ∗ (linB.view.loc (thr d L) ↦{q} X.lB)
    ∗ (ttcH.view.loc (thr d L) ↦{q} X.tt)
    ∗ (camH.view.loc (thr d L) ↦{q} X.cam)
    ∗ (senH.view.loc (thr d L) ↦{q} X.sen))

/-- The tile's pieces of the results, at given contents. -/
def pieces (d : Dev nD) (L : grid0.Coords) (f0 f1 f2 f3 f4 f5 : S6x16384.Idx → Elt F .f32) (ft : S16384.Idx → Elt F .f32) : sProp 𝕄 :=
  iprop(((outAt L 0 inb_S6x16384_S1x16384_0_0).view.loc (thr d L) ↦[(outAt L 0 inb_S6x16384_S1x16384_0_0).view.set]{fullShare} f0)
    ∗ ((outAt L 1 inb_S6x16384_S1x16384_1_0).view.loc (thr d L) ↦[(outAt L 1 inb_S6x16384_S1x16384_1_0).view.set]{fullShare} f1)
    ∗ ((outAt L 2 inb_S6x16384_S1x16384_2_0).view.loc (thr d L) ↦[(outAt L 2 inb_S6x16384_S1x16384_2_0).view.set]{fullShare} f2)
    ∗ ((outAt L 3 inb_S6x16384_S1x16384_3_0).view.loc (thr d L) ↦[(outAt L 3 inb_S6x16384_S1x16384_3_0).view.set]{fullShare} f3)
    ∗ ((outAt L 4 inb_S6x16384_S1x16384_4_0).view.loc (thr d L) ↦[(outAt L 4 inb_S6x16384_S1x16384_4_0).view.set]{fullShare} f4)
    ∗ ((outAt L 5 inb_S6x16384_S1x16384_5_0).view.loc (thr d L) ↦[(outAt L 5 inb_S6x16384_S1x16384_5_0).view.set]{fullShare} f5)
    ∗ ((ttoAt L).view.loc (thr d L) ↦[(ttoAt L).view.set]{fullShare} ft))

/-- Three programs one after another, then a fourth. -/
theorem wp_bind3 [FloatOps F] (c : Thread nD τ) {α : Type} (p0 p1 p2 : Prog (TpuEff nD τ sig (Elt F) Λ₀ c.2) PUnit.{1})
    (k : PUnit.{1} → Prog (TpuEff nD τ sig (Elt F) Λ₀ c.2) α) (Q : α → sProp 𝕄) :
    wp frame (wpE (defs₀ (F := F)) 𝒱₀ c none) Set.univ (p0 >>= fun _ => p1 >>= fun _ => p2 >>= k) Q
      = wp frame (wpE (defs₀ (F := F)) 𝒱₀ c none) Set.univ p0 fun _ => wp frame (wpE (defs₀ (F := F)) 𝒱₀ c none) Set.univ p1 fun _ =>
          wp frame (wpE (defs₀ (F := F)) 𝒱₀ c none) Set.univ p2 fun x => wp frame (wpE (defs₀ (F := F)) 𝒱₀ c none) Set.univ (k x) Q := by
  simp only [wp_bind]

variable [FloatOps F] (d : Dev nD) (L : grid0.Coords) (X : Ins F)

/-- The time-to-collision values copied out, the copy's payload named. -/
theorem tto_done (f : S16384.Idx → Elt F .f32) (w : S512.Idx → Elt F .f32) (hw : w = ttoV.view.read (Elt F) (ttoT X L)) :
    ((ttoAt L).view.loc (thr d L) ↦[(ttoAt L).view.set]{fullShare} (ttoAt L).view.writes (Elt F) f [⟨Rect.whole S512, w⟩] : sProp 𝕄)
      ⊢ ((ttoAt L).view.loc (thr d L) ↦[(ttoAt L).view.set]{fullShare} TTO X) := by
  subst hw
  exact Entails.of_eq (tto_stored d L X f)

set_option maxHeartbeats 4000000 in
/-- The task of the tile at grid point `L` of device `d`. -/
theorem tile_body (hX : X.OK) (q : PosShare TreeShare) (f0 f1 f2 f3 f4 f5 : S6x16384.Idx → Elt F .f32) (ft : S16384.Idx → Elt F .f32)
    (hF : (K (F := F)).Facts) (O : CellTallies nD τ sig (HIx 1)) (W : Waits sig (HIx 1)) (hO : ∀ g, O g none = 0) :
    iprop(levAts (K (F := F)).L (K (F := F)).lev ∗ emp ∗ (inputs d L X q ∗ pieces d L f0 f1 f2 f3 f4 f5 ft)
        ∗ scopedBufs (thr d L) ∗ scopedSems0 (thr d L) ∗ owes (thr d L) O W)
      ⊢ wp frame (wpE (defs₀ (F := F)) 𝒱₀ (thr d L) none) Set.univ (body (F := F) L)
          fun _ => iprop((inputs d L X q ∗ pieces d L (OUT X) (OUT X) (OUT X) (OUT X) (OUT X) (OUT X) (TTO X))
            ∗ scopedBufs (thr d L) ∗ scopedSems0 (thr d L)
            ∗ ∃ W', ⌜∀ p ∈ W', p ∈ W ∨ p.2 = none⌝ ∗ owes (thr d L) O W') := by
  obtain ⟨RB, hRB⟩ := scratch_eq (F := F) d L
  obtain ⟨RS, hRS⟩ := sems_eq (F := F) d L
  rw [(K (F := F)).scopedBufs_V hF d (cV L) (jV L), SparseCore.Cfg.scopedSems0_V (Val := Elt F) d (cV L) (jV L), hRS, hRB]
  unfold body inputs pieces
  rw [cc0__body_eq_skeleton]; unfold cc0__body_skel
  iintro ⟨#Hlv, -, ⟨⟨HA, HB, HlA, HlB, Htt, Hx, Hsen⟩, ⟨P0, P1, P2, P3, P4, P5, PT⟩⟩, ⟨Hc, H0, H1, H2, Hs, ⟨%fg, Hg⟩, Hl, Ho, Hto, Ht, HRB⟩, ⟨A0, A1, S0, S1, S2, S3, S4, S5, S6, S7, S8, S9, S10, S11, S12, S13, S14, S15, HRS⟩, HO⟩
  ihave Hmw := (show levAts (K (F := F)).L (K (F := F)).lev ⊢ Transfers.MayWaits (thr d L) (none : HIx 1) O from
    (K (F := F)).mayWaits_none (thr := thr d L) hO) $$ Hlv
  icases Hmw with #Hmw
  ihave HO := (show owes (thr d L) O W ⊢ (owed (F := F) d L O W : sProp 𝕄) from by
    unfold owed
    iintro HO
    iexists W; isplitr; rotate_left; · iexact HO
    ipureintro; exact fun p hp => .inl hp) $$ HO
  rw [wp_bind]
  iapply (part3_wp d L X hX O W q fg _) $$ [HO S0 Hx Hc H0 H1 H2 Hg HA HB A0 A1]
  · isplitr; · iexact Hmw
    isplitl [HO]; · iexact HO
    isplitl [S0]; · iexact S0
    isplitl [Hx]; · iexact Hx
    isplitl [Hc]; · iexact Hc
    isplitl [H0]; · iexact H0
    isplitl [H1]; · iexact H1
    isplitl [H2]; · iexact H2
    isplitl [Hg]; · iexact Hg
    isplitl [HA]; · iexact HA
    isplitl [HB]; · iexact HB
    isplitl [A0]; · iexact A0
    iexact A1
  iintro %v ⟨HO, S0, Hx, Hc, HI⟩
  rw [wp_bind]
  iapply (part4_wp d L X hX q fg _) $$ HI; iintro HI
  rw [wp_bind]
  iapply (part5_wp d L X hX q fg _) $$ HI; iintro HI
  rw [wp_bind]
  iapply (part6_wp d L X hX q fg _) $$ HI; iintro HI
  rw [wp_bind]
  iapply (part7_wp d L X hX q fg _) $$ HI; iintro HI
  rw [wp_bind3]
  iapply (fetch_wp d L X hX O W q fg _ _ _ _) $$ [HO HI S1 S2 S3 S4 S5 S6 S7 S8 Hsen HlA HlB Htt Hs Hl Ht Hto]
  · isplitr; · iexact Hmw
    isplitl [HO]; · iexact HO
    isplitl [HI]; · iexact HI
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [Hsen]; · iexact Hsen
    isplitl [HlA]; · iexact HlA
    isplitl [HlB]; · iexact HlB
    isplitl [Htt]; · iexact Htt
    isplitl [Hs]; · iexact Hs
    isplitl [Hl]; · iexact Hl
    isplitl [Ht]; · iexact Ht
    iexact Hto
  iintro ⟨HO, HI, S1, S2, S3, S4, S5, S6, S7, S8, Hsen, HlA, HlB, Htt, Hs, Hl, Ht, Hto⟩
  rw [wp_bind]
  iapply (part11_wp d L X hX O W q fg _) $$ [HO HI]
  · isplitr; · iexact Hmw
    isplitl [HO]; · iexact HO
    iexact HI
  iintro ⟨HO, HI⟩
  rw [wp_bind]
  iapply (part12_wp d L X hX O W q fg _) $$ [HO HI]
  · isplitr; · iexact Hmw
    isplitl [HO]; · iexact HO
    iexact HI
  iintro ⟨HO, HI⟩
  rw [wp_bind]
  iapply (part13_wp d L X hX O W q fg _) $$ [HO HI]
  · isplitr; · iexact Hmw
    isplitl [HO]; · iexact HO
    iexact HI
  iintro ⟨HO, HI⟩
  rw [wp_bind]
  iapply (part14_wp d L X hX O W q fg _) $$ [HO HI]
  · isplitr; · iexact Hmw
    isplitl [HO]; · iexact HO
    iexact HI
  iintro ⟨HO, HI⟩
  rw [wp_bind]
  iapply (part15_wp d L X hX O W q fg _) $$ [HO HI]
  · isplitr; · iexact Hmw
    isplitl [HO]; · iexact HO
    iexact HI
  iintro ⟨HO, HI⟩
  rw [wp_bind3]
  iapply (sums_wp d L X hX O W q fg _) $$ [HO HI S9 S10 S11 S12 S13 Hl Ho P0 P1 P2 P3 P4]
  · isplitr; · iexact Hmw
    isplitl [HO]; · iexact HO
    isplitl [HI]; · iexact HI
    isplitl [S9]; · iexact S9
    isplitl [S10]; · iexact S10
    isplitl [S11]; · iexact S11
    isplitl [S12]; · iexact S12
    isplitl [S13]; · iexact S13
    isplitl [Hl]; · iexact Hl
    isplitl [Ho]; · iexact Ho
    isplitl [P0]; · iexists _; iexact P0
    isplitl [P1]; · iexists _; iexact P1
    isplitl [P2]; · iexists _; iexact P2
    isplitl [P3]; · iexists _; iexact P3
    iexists _; iexact P4
  iintro ⟨HO, ⟨HA, HB, Hg, H0, H1, H2, A0, A1⟩, S9, S10, S11, S12, S13, Hl, Ho, P0, P1, P2, P3, P4⟩
  unfold owed
  icases HO with ⟨%W', %hW', HO⟩
  sl_exec
  sl_step
  ihave P5 := (out_done d L X 5 (by decide) inb_S6x16384_S1x16384_5_0 inb_S6x512_S1x512_5_0 f5 (tile_body.sl.dma0 L X) rfl) $$ P5
  ihave PT := (tto_done d L X ft (tile_body.sl.dma0_1 L X) rfl) $$ PT
  isplitl [HA HB HlA HlB Htt Hx Hsen P0 P1 P2 P3 P4 P5 PT]
  · isplitl [HA HB HlA HlB Htt Hx Hsen]
    · isplitl [HA]; · iexact HA
      isplitl [HB]; · iexact HB
      isplitl [HlA]; · iexact HlA
      isplitl [HlB]; · iexact HlB
      isplitl [Htt]; · iexact Htt
      isplitl [Hx]; · iexact Hx
      iexact Hsen
    isplitl [P0]; · iexact P0
    isplitl [P1]; · iexact P1
    isplitl [P2]; · iexact P2
    isplitl [P3]; · iexact P3
    isplitl [P4]; · iexact P4
    isplitl [P5]; · iexact P5
    iexact PT
  isplitl [Hc H0 H1 H2 Hs Hg Hl Ho Hto Ht HRB]
  · isplitl [Hc]; · iexists _; iexact Hc
    isplitl [H0]; · iexists _; iexact H0
    isplitl [H1]; · iexists _; iexact H1
    isplitl [H2]; · iexists _; iexact H2
    isplitl [Hs]; · iexists _; iexact Hs
    isplitl [Hg]; · iexists _; iexact Hg
    isplitl [Hl]; · iexists _; iexact Hl
    isplitl [Ho]; · iexists _; iexact Ho
    isplitl [Hto]; · iexists _; iexact Hto
    isplitl [Ht]; · iexists _; iexact Ht
    iexact HRB
  isplitl [A0 A1 S0 S1 S2 S3 S4 S5 S6 S7 S8 S9 S10 S11 S12 S13 S14 S15 HRS]
  · isplitl [A0]; · iexact A0
    isplitl [A1]; · iexact A1
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    iexact HRS
  iexists _; isplitr; rotate_left; · iexact HO
  ipureintro
  iterate 2 refine waits_insert ?_
  exact hW'

end Cert.Proof.Tile
-- ==== Proof.Tiles.lean ====
/-
  The call's arrays shared out among the 32 tiles: the inputs by read shares, the results by the pieces that the tiles
  write.
-/
module

public import proofs.«01_k».proof.Proof.Body

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The place of an array of the call on device `d`. -/
abbrev hbm (d : Dev nD) (b : Ref sig .tc) : Loc nD τ sig := (SparseCore.T (τ := τ) d).loc b

/-- The grid point of subcore `i` of SparseCore `c`. -/
def tileAt (c : Fin 2) (i : Fin 16) : grid0.Coords :=
  fun | 0 => c | 1 => i | ⟨_ + 2, h⟩ => absurd h (Nat.not_lt.2 (Nat.le_add_left _ _))

/-- Where the elements of a tile start. -/
theorem base_tileAt (c : Fin 2) (i : Fin 16) : base (tileAt c i) = 1024 * i.val + 512 * c.val := rfl

/-- The tile's read share of an input: a sixteenth of its SparseCore's half. -/
def share (c : Fin 2) (i : Fin 16) : PosShare TreeShare :=
  pieceOf (pieceOf fullShare 2 (by decide) c) 16 (by decide) i

/-- Separate resources may be grouped either way. -/
theorem sep_regroup (A B C : sProp 𝕄) : (iprop((A ∗ B) ∗ C) : sProp 𝕄) = iprop(A ∗ B ∗ C) :=
  BI.equiv_iff.mp ⟨BI.sep_assoc, BI.sep_assoc'⟩

/-- A buffer's elements shared out among the tiles: each its share of all of them. -/
theorem shares_split {ℓ : Loc nD τ sig} (f : Buf (Elt F) ℓ) :
    (ℓ ↦{fullShare} f : sProp 𝕄)
      = bigSep Finset.univ fun c : Fin 2 => bigSep Finset.univ fun i : Fin 16 => ℓ ↦{share c i} f := by
  rw [pointsTo_piecesOf Finset.univ f (o := 2) (by decide) fullShare]
  exact bigSep_congr fun c _ => pointsTo_piecesOf Finset.univ f (o := 16) (by decide) _

/-- Elements `S` of a buffer, each in one tile's part, shared out among the tiles. -/
theorem parts_split {ℓ : Loc nD τ sig} (f : Buf (Elt F) ℓ) (S : Finset (Idx ℓ)) (I : Fin 2 → Fin 16 → Finset (Idx ℓ))
    (g : Idx ℓ → Fin 2 × Fin 16) (h : ∀ c i y, y ∈ I c i ↔ y ∈ S ∧ g y = (c, i)) :
    (ℓ ↦[S]{fullShare} f : sProp 𝕄)
      = bigSep Finset.univ fun c : Fin 2 => bigSep Finset.univ fun i : Fin 16 => ℓ ↦[I c i]{fullShare} f := by
  rw [pts_split f S (fun b => I b.1 b.2) g (fun b y => h b.1 b.2 y), ← Finset.univ_product_univ, SparseCore.bigSep_product]

/-- The tile that holds element `e` of the batch. -/
def tileOf (e : Fin 16384) : Fin 2 × Fin 16 := (⟨e.val / 512 % 2, Nat.mod_lt _ (by decide)⟩, ⟨e.val / 1024, by omega⟩)

/-- Element `e` is among a tile's 512 just when the tile is the one that holds it. -/
theorem tileOf_iff (c : Fin 2) (i : Fin 16) (e : Fin 16384) : (∃ x : Fin 512, elt (tileAt c i) x = e) ↔ tileOf e = (c, i) := by
  have hc := c.isLt
  constructor
  · rintro ⟨x, rfl⟩
    have hx := x.isLt
    refine Prod.ext (Fin.ext ?_) (Fin.ext ?_)
    · show (1024 * i.val + 512 * c.val + x.val) / 512 % 2 = c.val; omega
    · show (1024 * i.val + 512 * c.val + x.val) / 1024 = i.val; omega
  · intro h
    have h1 : e.val / 512 % 2 = c.val := congrArg (fun p => p.1.val) h
    have h2 : e.val / 1024 = i.val := congrArg (fun p => p.2.val) h
    exact ⟨⟨e.val % 512, Nat.mod_lt _ (by decide)⟩, Fin.ext (by
      show 1024 * i.val + 512 * c.val + e.val % 512 = e.val; omega)⟩

/-- A tile's block of row `r` of the component rows: the row's elements that the tile holds. -/
theorem mem_outAt (c : Fin 2) (i : Fin 16) (r : Fin 6) (h : ∀ a, (![r.val, 0] : Fin 2 → ℕ) a + S1x16384.size a ≤ S6x16384.size a)
    (y : S6x16384.Idx) : y ∈ (outAt (tileAt c i) r.val h).view.set ↔ (y 0 = r ∧ tileOf (y 1) = (c, i)) := by
  refine (mem_view_set (outAt (tileAt c i) r.val h).view y).trans ⟨?_, fun ⟨h0, h1⟩ => ?_⟩
  · rintro ⟨x, rfl⟩
    rw [outAt_emb]
    exact ⟨rfl, (tileOf_iff c i _).mp ⟨x 0, rfl⟩⟩
  · obtain ⟨x, hx⟩ := (tileOf_iff c i (y 1)).mpr h1
    refine ⟨ix1 x, ?_⟩
    rw [outAt_emb, ← ix2_eta y]
    exact congrArg₂ ix2 h0.symm hx

/-- A tile's block of the time-to-collision values: the elements that the tile holds. -/
theorem mem_ttoAt (c : Fin 2) (i : Fin 16) (y : S16384.Idx) :
    y ∈ (ttoAt (tileAt c i)).view.set ↔ tileOf (y 0) = (c, i) := by
  refine (mem_view_set (ttoAt (tileAt c i)).view y).trans ⟨?_, fun h1 => ?_⟩
  · rintro ⟨x, rfl⟩
    rw [ttoAt_emb]
    exact (tileOf_iff c i _).mp ⟨x 0, rfl⟩
  · obtain ⟨x, hx⟩ := (tileOf_iff c i (y 0)).mpr h1
    refine ⟨ix1 x, ?_⟩
    rw [ttoAt_emb, ← ix1_eta y]
    exact congrArg ix1 hx

/-- Six numbered resources and one more, written out. -/
theorem sep_six (R : Fin 6 → sProp 𝕄) (t : sProp 𝕄) :
    (iprop(bigSep Finset.univ R ∗ t) : sProp 𝕄) = iprop(R 0 ∗ R 1 ∗ R 2 ∗ R 3 ∗ R 4 ∗ R 5 ∗ t) := by
  rw [show (Finset.univ : Finset (Fin 6)) = {0, 1, 2, 3, 4, 5} by decide, SparseCore.bigSep_insert' (by decide),
    SparseCore.bigSep_insert' (by decide), SparseCore.bigSep_insert' (by decide), SparseCore.bigSep_insert' (by decide),
    SparseCore.bigSep_insert' (by decide), bigSep_singleton]
  simp only [sep_regroup]

/-- Seven resources of every tile, kind by kind. -/
theorem tiles_seven (A0 A1 A2 A3 A4 A5 A6 : Fin 2 → Fin 16 → sProp 𝕄) (B0 B1 B2 B3 B4 B5 B6 : sProp 𝕄)
    (h0 : B0 = bigSep Finset.univ fun c => bigSep Finset.univ fun i => A0 c i)
    (h1 : B1 = bigSep Finset.univ fun c => bigSep Finset.univ fun i => A1 c i)
    (h2 : B2 = bigSep Finset.univ fun c => bigSep Finset.univ fun i => A2 c i)
    (h3 : B3 = bigSep Finset.univ fun c => bigSep Finset.univ fun i => A3 c i)
    (h4 : B4 = bigSep Finset.univ fun c => bigSep Finset.univ fun i => A4 c i)
    (h5 : B5 = bigSep Finset.univ fun c => bigSep Finset.univ fun i => A5 c i)
    (h6 : B6 = bigSep Finset.univ fun c => bigSep Finset.univ fun i => A6 c i) :
    (iprop(B0 ∗ B1 ∗ B2 ∗ B3 ∗ B4 ∗ B5 ∗ B6) : sProp 𝕄) = bigSep Finset.univ fun c => bigSep Finset.univ fun i =>
      iprop(A0 c i ∗ A1 c i ∗ A2 c i ∗ A3 c i ∗ A4 c i ∗ A5 c i ∗ A6 c i) := by
  simp only [bigSep_sep', h0, h1, h2, h3, h4, h5, h6]

/-! ## The inputs -/

/-- The seven inputs whole. -/
def inputsWhole (d : Dev nD) (X : Ins F) : sProp 𝕄 :=
  iprop((hbm d main_v4 ↦{fullShare} X.tA) ∗ (hbm d main_v9 ↦{fullShare} X.tB) ∗ (hbm d main_v11 ↦{fullShare} X.lA)
    ∗ (hbm d main_v13 ↦{fullShare} X.lB) ∗ (hbm d main_arg4 ↦{fullShare} X.tt) ∗ (hbm d main_v14 ↦{fullShare} X.cam)
    ∗ (hbm d main_arg6 ↦{fullShare} X.sen))

/-- The inputs whole are every tile's share of them. -/
theorem inputs_tiles (d : Dev nD) (X : Ins F) :
    (inputsWhole d X : sProp 𝕄) = bigSep Finset.univ fun c : Fin 2 => bigSep Finset.univ fun i : Fin 16 =>
      inputs d (tileAt c i) X (share c i) := by
  unfold inputsWhole
  exact tiles_seven _ _ _ _ _ _ _ _ _ _ _ _ _ _ (shares_split _) (shares_split _) (shares_split _) (shares_split _)
    (shares_split _) (shares_split _) (shares_split _)

/-! ## The results -/

/-- The component rows of row number `r`. -/
def rowSet (r : Fin 6) : Finset S6x16384.Idx := Finset.univ.filter fun y => (y 0).val = r.val

/-- Membership of a row. -/
theorem mem_rowSet (r : Fin 6) (y : S6x16384.Idx) : y ∈ rowSet r ↔ y 0 = r := by
  unfold rowSet
  exact Finset.mem_filter.trans ⟨fun h => Fin.ext h.2, fun h => ⟨Finset.mem_univ _, congrArg Fin.val h⟩⟩

/-- A row shared out among the tiles. -/
theorem row_tiles (d : Dev nD) (r : Fin 6) (h : ∀ a, (![r.val, 0] : Fin 2 → ℕ) a + S1x16384.size a ≤ S6x16384.size a)
    (f : S6x16384.Idx → Elt F .f32) :
    (hbm d main_v15_0 ↦[rowSet r]{fullShare} f : sProp 𝕄)
      = bigSep Finset.univ fun c : Fin 2 => bigSep Finset.univ fun i : Fin 16 =>
          (outAt (tileAt c i) r.val h).view.loc (thr d (tileAt c i)) ↦[(outAt (tileAt c i) r.val h).view.set]{fullShare} f := by
  refine parts_split (ℓ := hbm d main_v15_0) f (rowSet r) (fun c i => (outAt (tileAt c i) r.val h).view.set)
    (fun y => tileOf ((y : S6x16384.Idx) 1)) fun c i y => ?_
  exact (mem_outAt c i r h y).trans (and_congr_left fun _ => (mem_rowSet r y).symm)

/-- The results whole, at given contents. -/
def resultsWhole (d : Dev nD) (f : S6x16384.Idx → Elt F .f32) (ft : S16384.Idx → Elt F .f32) : sProp 𝕄 :=
  iprop((hbm d main_v15_0 ↦{fullShare} f) ∗ (hbm d main_v15_1 ↦{fullShare} ft))

/-- The component rows, one by one. -/
theorem out_rows (d : Dev nD) (f : S6x16384.Idx → Elt F .f32) :
    (hbm d main_v15_0 ↦{fullShare} f : sProp 𝕄) = bigSep Finset.univ fun r : Fin 6 => hbm d main_v15_0 ↦[rowSet r]{fullShare} f :=
  pts_split (ℓ := hbm d main_v15_0) f Finset.univ rowSet (fun y => (y : S6x16384.Idx) 0) fun r y =>
    (mem_rowSet r y).trans ⟨fun h => ⟨Finset.mem_univ _, h⟩, fun h => h.2⟩

/-- The results whole are every tile's pieces of them. -/
theorem results_tiles (d : Dev nD) (f : S6x16384.Idx → Elt F .f32) (ft : S16384.Idx → Elt F .f32) :
    (resultsWhole d f ft : sProp 𝕄) = bigSep Finset.univ fun c : Fin 2 => bigSep Finset.univ fun i : Fin 16 =>
      pieces d (tileAt c i) f f f f f f ft := by
  have ht : (hbm d main_v15_1 ↦{fullShare} ft : sProp 𝕄) = bigSep Finset.univ fun c : Fin 2 => bigSep Finset.univ fun i : Fin 16 =>
      (ttoAt (tileAt c i)).view.loc (thr d (tileAt c i)) ↦[(ttoAt (tileAt c i)).view.set]{fullShare} ft :=
    parts_split (ℓ := hbm d main_v15_1) ft Finset.univ (fun c i => (ttoAt (tileAt c i)).view.set)
      (fun y => tileOf ((y : S16384.Idx) 0)) fun c i y => (mem_ttoAt c i y).trans (by simp)
  unfold resultsWhole
  rw [out_rows]
  exact (sep_six _ _).trans (tiles_seven _ _ _ _ _ _ _ _ _ _ _ _ _ _
    (row_tiles d 0 inb_S6x16384_S1x16384_0_0 f) (row_tiles d 1 inb_S6x16384_S1x16384_1_0 f)
    (row_tiles d 2 inb_S6x16384_S1x16384_2_0 f) (row_tiles d 3 inb_S6x16384_S1x16384_3_0 f)
    (row_tiles d 4 inb_S6x16384_S1x16384_4_0 f) (row_tiles d 5 inb_S6x16384_S1x16384_5_0 f) ht)

/-! ## Inputs and results together -/

/-- A tile's shares of the inputs and its pieces of the results. -/
def tilePart (d : Dev nD) (X : Ins F) (f : S6x16384.Idx → Elt F .f32) (ft : S16384.Idx → Elt F .f32) (c : Fin 2) (i : Fin 16) :
    sProp 𝕄 :=
  iprop(inputs d (tileAt c i) X (share c i) ∗ pieces d (tileAt c i) f f f f f f ft)

/-- A tile's part may be kept in the ghost state. -/
instance tilePart_storable (d : Dev nD) (X : Ins F) (f : S6x16384.Idx → Elt F .f32) (ft : S16384.Idx → Elt F .f32) (c : Fin 2)
    (i : Fin 16) : BI.Storable (upEmb : UEmb _ 𝕄) (tilePart d X f ft c i) := by
  unfold tilePart inputs pieces; infer_instance

/-- The parts of a SparseCore's tiles. -/
def corePart (d : Dev nD) (X : Ins F) (f : S6x16384.Idx → Elt F .f32) (ft : S16384.Idx → Elt F .f32) (c : Fin 2) : sProp 𝕄 :=
  bigSep Finset.univ fun i : Fin 16 => tilePart d X f ft c i

/-- A SparseCore's part may be kept in the ghost state. -/
instance corePart_storable (d : Dev nD) (X : Ins F) (f : S6x16384.Idx → Elt F .f32) (ft : S16384.Idx → Elt F .f32) (c : Fin 2) :
    BI.Storable (upEmb : UEmb _ 𝕄) (corePart d X f ft c) := by
  unfold corePart; infer_instance

/-- Two resources of every tile, kind by kind. -/
theorem tiles_two (A B : Fin 2 → Fin 16 → sProp 𝕄) :
    (bigSep Finset.univ fun c => bigSep Finset.univ fun i => iprop(A c i ∗ B c i))
      = (iprop((bigSep Finset.univ fun c => bigSep Finset.univ fun i => A c i)
          ∗ (bigSep Finset.univ fun c => bigSep Finset.univ fun i => B c i)) : sProp 𝕄) := by
  simp only [bigSep_sep']

/-- The parts of all the tiles are the inputs and the results whole. -/
theorem cores_whole (d : Dev nD) (X : Ins F) (f : S6x16384.Idx → Elt F .f32) (ft : S16384.Idx → Elt F .f32) :
    (bigSep Finset.univ fun c : Fin 2 => corePart d X f ft c)
      = (iprop(inputsWhole d X ∗ resultsWhole d f ft) : sProp 𝕄) := by
  rw [inputs_tiles, results_tiles]
  exact tiles_two (fun c i => inputs d (tileAt c i) X (share c i)) fun c i => pieces d (tileAt c i) f f f f f f ft

end Cert.Proof.Tile
-- ==== Proof.Host.lean ====
/-
  The program's operations on the TensorCore before and after the call, and what the arrays hold around the call.
-/
module

public import proofs.«01_k».proof.Proof.Tiles
public import Idealize.ShloMosaic.Lib.StableHlo.Run

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

local notation "𝕄" => MT nD τ sig (HIx 1) (Elt F) ℕ UU ℕ

variable [FloatOps F]

/-- The operations before the call, in order. -/
abbrev ops0 : List (HloOp τ sig (Elt F)) :=
  [nullary main_c (constantI S_ 32 0#32),
    TRef.unary (TRef.of (T := ⟨S_, .i32⟩) main_c) (TRef.of (T := ⟨S_, .f32⟩) main_call0_v0) (sitofp .f32),
    TRef.binary (TRef.of (T := ⟨S1000000x3, .f32⟩) main_arg2) (TRef.of (T := ⟨S_, .f32⟩) main_call0_v0)
      (TRef.of (T := ⟨S1000448x4, .f32⟩) main_v0)
      (fun x v => pad S1000448x4 ![0, 0] ![448, 1] ![0, 0] x v pads_S1000000x3_S1000448x4_04480_010 h_S_),
    reshape main_v0 main_v1 (rfl : (.f32 : EltTy) = .f32) shapeCasts_S1000448x4_S7816x128x4,
    unary main_v1 main_v2 (id : (⟨S7816x128x4, .f32⟩ : BufTy).Contents (Elt F) → (⟨S7816x128x4, .f32⟩ : BufTy).Contents (Elt F)),
    unary main_v2 main_v3 ((transpose S7816x4x128 [0, 2, 1] · transposes_S7816x128x4_S7816x4x128_0_2_1) :
      (⟨S7816x128x4, .f32⟩ : BufTy).Contents (Elt F) → (⟨S7816x4x128, .f32⟩ : BufTy).Contents (Elt F)),
    reshape main_v3 main_v4 (rfl : (.f32 : EltTy) = .f32) shapeCasts_S7816x4x128_S4001792,
    nullary main_c_0 (constantI S_ 32 0#32),
    TRef.unary (TRef.of (T := ⟨S_, .i32⟩) main_c_0) (TRef.of (T := ⟨S_, .f32⟩) main_call1_v0) (sitofp .f32),
    TRef.binary (TRef.of (T := ⟨S1000000x3, .f32⟩) main_arg3) (TRef.of (T := ⟨S_, .f32⟩) main_call1_v0)
      (TRef.of (T := ⟨S1000448x4, .f32⟩) main_v5)
      (fun x v => pad S1000448x4 ![0, 0] ![448, 1] ![0, 0] x v pads_S1000000x3_S1000448x4_04480_010 h_S_),
    reshape main_v5 main_v6 (rfl : (.f32 : EltTy) = .f32) shapeCasts_S1000448x4_S7816x128x4,
    unary main_v6 main_v7 (id : (⟨S7816x128x4, .f32⟩ : BufTy).Contents (Elt F) → (⟨S7816x128x4, .f32⟩ : BufTy).Contents (Elt F)),
    unary main_v7 main_v8 ((transpose S7816x4x128 [0, 2, 1] · transposes_S7816x128x4_S7816x4x128_0_2_1) :
      (⟨S7816x128x4, .f32⟩ : BufTy).Contents (Elt F) → (⟨S7816x4x128, .f32⟩ : BufTy).Contents (Elt F)),
    reshape main_v8 main_v9 (rfl : (.f32 : EltTy) = .f32) shapeCasts_S7816x4x128_S4001792,
    unary main_arg0 main_v10 ((transpose S3x16384 [1, 0] · transposes_S16384x3_S3x16384_1_0) :
      (⟨S16384x3, .f32⟩ : BufTy).Contents (Elt F) → (⟨S3x16384, .f32⟩ : BufTy).Contents (Elt F)),
    reshape main_v10 main_v11 (rfl : (.f32 : EltTy) = .f32) shapeCasts_S3x16384_S49152,
    unary main_arg1 main_v12 ((transpose S3x16384 [1, 0] · transposes_S16384x3_S3x16384_1_0) :
      (⟨S16384x3, .f32⟩ : BufTy).Contents (Elt F) → (⟨S3x16384, .f32⟩ : BufTy).Contents (Elt F)),
    reshape main_v12 main_v13 (rfl : (.f32 : EltTy) = .f32) shapeCasts_S3x16384_S49152,
    reshape main_arg5 main_v14 (rfl : (.i32 : EltTy) = .i32) shapeCasts_S16384_S128x128]

/-- The operation after the call: the component rows transposed into the first result. -/
abbrev opT : HloOp τ sig (Elt F) :=
  unary main_v15_0 main_v16 ((transpose S16384x6 [1, 0] · transposes_S6x16384_S16384x6_1_0) :
    (⟨S6x16384, .f32⟩ : BufTy).Contents (Elt F) → (⟨S16384x6, .f32⟩ : BufTy).Contents (Elt F))

/-- The program's text on the TensorCore: those operations, the call, that operation. -/
theorem main_eq (d : Dev nD) :
    main (F := F) d = (seq ops0 >>= fun _ => (K (F := F)).run d 0 >>= fun _ => seq [opT]) := rfl

/-- The operations before the call touch arrays of the TensorCore alone. -/
theorem ops0_sub : ∀ op ∈ (ops0 : List (HloOp τ sig (Elt F))), op.bufs ⊆ tcRefs τ sig :=
  List.forall_iff_forall_mem.mp
    ⟨nullary_bufs_sub .., unary_bufs_sub .., binary_bufs_sub .., reshape_bufs_sub .., unary_bufs_sub .., unary_bufs_sub ..,
      reshape_bufs_sub .., nullary_bufs_sub .., unary_bufs_sub .., binary_bufs_sub .., reshape_bufs_sub .., unary_bufs_sub ..,
      unary_bufs_sub .., reshape_bufs_sub .., unary_bufs_sub .., reshape_bufs_sub .., unary_bufs_sub .., reshape_bufs_sub ..,
      reshape_bufs_sub ..⟩

/-- They claim no array as fresh. -/
theorem ops0_fresh : ∀ op ∈ (ops0 : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl⟩

/-- So does the operation after the call. -/
theorem opT_sub : ∀ op ∈ [(opT : HloOp τ sig (Elt F))], op.bufs ⊆ tcRefs τ sig :=
  List.forall_iff_forall_mem.mp (unary_bufs_sub ..)

/-- Nor does the operation after the call. -/
theorem opT_fresh : ∀ op ∈ [(opT : HloOp τ sig (Elt F))], op.fresh = ∅ := List.forall_iff_forall_mem.mp rfl

/-! ## What the arrays hold -/

/-- The call's inputs, read off what every array holds. -/
def callIns (V : Valuation τ sig (Elt F)) : Ins F where
  tA := V (Proc.devRef .tc main_v4)
  tB := V (Proc.devRef .tc main_v9)
  lA := V (Proc.devRef .tc main_v11)
  lB := V (Proc.devRef .tc main_v13)
  tt := V (Proc.devRef .tc main_arg4)
  cam := V (Proc.devRef .tc main_v14)
  sen := V (Proc.devRef .tc main_arg6)

variable (m : (ℓ : Loc nD τ sig) → Buf (Elt F) ℓ)

/-- What every array holds when the call starts. -/
def V1 (d : Dev nD) : Valuation τ sig (Elt F) := after ops0 (launchContents m d)

/-- The call's inputs. -/
def X (d : Dev nD) : Ins F := callIns (V1 m d)

/-- What every array holds when the call is over: its two results at their values, the others as before. -/
def V2 (d : Dev nD) : Valuation τ sig (Elt F) :=
  Function.update (Function.update (V1 m d) (Proc.devRef .tc main_v15_0) (OUT (X m d))) (Proc.devRef .tc main_v15_1) (TTO (X m d))

/-- What every array holds at the end. -/
def V3 (d : Dev nD) : Valuation τ sig (Elt F) := after [opT] (V2 m d)

end Cert.Proof.Tile
-- ==== Proof.Launch.lean ====
/-
  The launch: what each tile takes and gives back, the program on the TensorCore around the call, and the run of the
  whole program.
-/
module

public import proofs.«01_k».proof.Proof.Host
public import Idealize.ShloMosaic.Lib.SparseCore.Quiescent

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

local notation "𝕄" => MT nD τ sig (HIx 1) (Elt F) ℕ UU ℕ

variable [FloatOps F]

/-! ## What the call is given and gives back -/

section Pays

variable (m : (ℓ : Loc nD τ sig) → Buf (Elt F) ℓ)

/-- What the first result's array holds when the call starts. -/
def out0 (d : Dev nD) : S6x16384.Idx → Elt F .f32 := V1 m d (Proc.devRef .tc main_v15_0)
/-- What the second result's array holds when the call starts. -/
def tto0 (d : Dev nD) : S16384.Idx → Elt F .f32 := V1 m d (Proc.devRef .tc main_v15_1)

/-- The call runs on sixteen tiles of a SparseCore. -/
theorem nSub_eq (q : Fin 1) : (K (F := F)).nSub q = 16 := match q with | 0 => rfl
/-- The call runs on two SparseCores. -/
theorem nCore_eq (q : Fin 1) : (K (F := F)).nCore q = 2 := match q with | 0 => rfl

/-- What the call hands a SparseCore and each of its tiles, and what they hand back. -/
def P : (K (F := F)).Pay (nD := nD) (Val := Elt F) (Name := ℕ) (U := UU) where
  st := fun q d c => corePart d (X m d) (out0 m d) (tto0 m d) (Fin.cast (nCore_eq q) c)
  dn := fun q d c => corePart d (X m d) (OUT (X m d)) (TTO (X m d)) (Fin.cast (nCore_eq q) c)
  go := fun q d c i => tilePart d (X m d) (out0 m d) (tto0 m d) (Fin.cast (nCore_eq q) c) (Fin.cast (nSub_eq q) i)
  td := fun q d c i => tilePart d (X m d) (OUT (X m d)) (TTO (X m d)) (Fin.cast (nCore_eq q) c) (Fin.cast (nSub_eq q) i)
  x := fun _ _ => iprop(emp)

/-- Everything handed over may be kept in the ghost state. -/
instance P_storable : (P (F := F) m).IsStorable where
  st _ d _ := corePart_storable d (X m d) (out0 m d) (tto0 m d) _
  dn _ d _ := corePart_storable d (X m d) (OUT (X m d)) (TTO (X m d)) _
  go _ d _ _ := tilePart_storable d (X m d) (out0 m d) (tto0 m d) _ _
  td _ d _ _ := tilePart_storable d (X m d) (OUT (X m d)) (TTO (X m d)) _ _

/-! ## A tile's obligation -/

/-- What a tile of the call runs. -/
theorem defs₀_vector (c : Fin τ.nSC) (s : Fin τ.nSub) :
    defs₀ (F := F) (.scVector c s) 0 () = SparseCore.onTile hcore0 hsub0 (fun c s => body (tileAt c s)) ⟨⟩ c s := rfl

/-- A tile that waited for its own transfers alone kept to the waits that the call allows it. -/
theorem own_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr
  · ipureintro; exact fun p hp => (h p hp).elim Or.inl fun h => Or.inr (Or.inl h)
  iexact HO

set_option maxRecDepth 16384 in
/-- Every tile does its task, the indices being in range. -/
theorem tileObl (hF : (K (F := F)).Facts) (hX : ∀ d, (X m d).OK) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileAt ⟨_, hci.1⟩ ⟨_, hci.2⟩) (X m d) (hX d) _ _ _ _ _ _ _ _ hF O W hO).trans
    (wp_mono frame _ _ fun _ => own_waits)

/-! ## What a SparseCore hands its tiles -/

/-- A conjunction over the tiles of the call is one over sixteen numbers. -/
theorem bigSep_tiles (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)

/-- A conjunction over the SparseCores of the call is one over two numbers. -/
theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)

/-- A SparseCore's part is its tiles' parts, whatever the results hold before and after. -/
theorem core_split (d : Dev nD) (Y : Ins F) (f g : S6x16384.Idx → Elt F .f32) (ft gt : S16384.Idx → Elt F .f32) (c : Fin 2) :
    corePart d Y f ft c ⊢ (|={Set.univ}=> iprop(
      (bigSep Finset.univ fun i : Fin ((K (F := F)).nSub 0) => tilePart d Y f ft c (Fin.cast (nSub_eq 0) i))
      ∗ ((bigSep Finset.univ fun i : Fin ((K (F := F)).nSub 0) => tilePart d Y g gt c (Fin.cast (nSub_eq 0) i))
        -∗ corePart d Y g gt c)) : sProp 𝕄) := by
  rw [bigSep_tiles (F := F) (tilePart d Y f ft c), bigSep_tiles (F := F) (tilePart d Y g gt c)]
  unfold corePart
  iintro H
  imodintro
  isplitl [H]; · iexact H
  iintro H
  iexact H

/-- A SparseCore is handed just what its tiles take, and hands back what they give back. -/
theorem vecSplit : (K (F := F)).VecSplit' (P m) 0 := fun d c =>
  core_split d (X m d) (out0 m d) (OUT (X m d)) (tto0 m d) (TTO (X m d)) (Fin.cast (nCore_eq 0) c)

/-! ## The launch's ghost state -/

/-- The ghost state at the start. -/
def u₀ : UU := (initOf (K (F := F)).hsCells (K (F := F)).hsToks, 1)

/-- A conjunction of nothings is nothing. -/
theorem bigSep_nothing {I : Type} (s : Finset I) : (bigSep s fun _ => iprop(emp)) = (iprop(emp) : sProp 𝕄) := bigSep_emp_const s

/-- The ghost state at the start gives every hand-over its own part. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨H, -⟩
  imodintro
  isplitl [H]; · iexact H
  isplitr
  · rw [bigSep_nothing]; iempintro
  rw [show (bigSep Finset.univ fun t : Thread nD τ => bigSep Finset.univ fun q : Fin 1 => (P (F := F) m).x q t)
    = bigSep Finset.univ fun _ => iprop(emp) from bigSep_congr fun _ _ => bigSep_univ_of_subsingleton (0 : Fin 1), bigSep_nothing]
  iempintro

/-! ## The program on the TensorCore -/

/-- The launch's arrays, as the operations hold them. -/
theorem launch_held (d : Dev nD) :
    (unscopedBufs d (fun b => m ((SparseCore.T d).loc b)) : sProp 𝕄) = held (d.tc : Thread nD τ) (tcRefs τ sig) (launchContents m d) := by
  unfold unscopedBufs held tcRefs
  rw [bigSep_map, show (Finset.univ.filter fun b : Ref sig .tc => ¬ b.isScoped) = Finset.univ by decide]
  rfl

/-- The arrays of the call. -/
def callRefs : Finset (DevRef τ sig) :=
  {Proc.devRef .tc main_v4, Proc.devRef .tc main_v9, Proc.devRef .tc main_v11, Proc.devRef .tc main_v13,
    Proc.devRef .tc main_arg4, Proc.devRef .tc main_v14, Proc.devRef .tc main_arg6, Proc.devRef .tc main_v15_0,
    Proc.devRef .tc main_v15_1}

/-- The call's arrays are arrays of the TensorCore. -/
theorem callRefs_sub : callRefs ⊆ tcRefs τ sig := by
  intro b hb
  simp only [callRefs, Finset.mem_insert, Finset.mem_singleton] at hb
  rcases hb with h | h | h | h | h | h | h | h | h <;> exact h ▸ devRef_mem_tcRefs _

/-- The arrays of the call are its inputs and its results. -/
theorem call_held (d : Dev nD) (V : Valuation τ sig (Elt F)) :
    (held (d.tc : Thread nD τ) callRefs V : sProp 𝕄)
      = iprop(inputsWhole d (callIns V) ∗ resultsWhole d (V (Proc.devRef .tc main_v15_0)) (V (Proc.devRef .tc main_v15_1))) := by
  unfold held callRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  unfold inputsWhole resultsWhole
  simp only [sep_regroup]
  rfl

/-- The call leaves every other array as it was. -/
theorem V2_other (d : Dev nD) (b : DevRef τ sig) (h0 : b ≠ Proc.devRef .tc main_v15_0) (h1 : b ≠ Proc.devRef .tc main_v15_1) :
    V2 m d b = V1 m d b :=
  (Function.update_of_ne h1 _ _).trans (Function.update_of_ne h0 _ _)

/-- The first result's array after the call. -/
theorem V2_out (d : Dev nD) : V2 m d (Proc.devRef .tc main_v15_0) = OUT (X m d) :=
  (Function.update_of_ne (by decide) _ _).trans (Function.update_self _ _ _)

/-- The second result's array after the call. -/
theorem V2_tto (d : Dev nD) : V2 m d (Proc.devRef .tc main_v15_1) = TTO (X m d) := Function.update_self _ _ _

/-- The call's inputs are the same after the call as before it. -/
theorem V2_ins (d : Dev nD) : callIns (V2 m d) = X m d := by
  unfold X callIns
  rw [V2_other m d _ (by decide) (by decide), V2_other m d _ (by decide) (by decide), V2_other m d _ (by decide) (by decide),
    V2_other m d _ (by decide) (by decide), V2_other m d _ (by decide) (by decide), V2_other m d _ (by decide) (by decide),
    V2_other m d _ (by decide) (by decide)]

/-- The SparseCores' parts together: the inputs and the results whole. -/
theorem cores_join (d : Dev nD) (Y : Ins F) (f : S6x16384.Idx → Elt F .f32) (ft : S16384.Idx → Elt F .f32) :
    (bigSep Finset.univ fun c : Fin ((K (F := F)).nCore 0) => corePart d Y f ft (Fin.cast (nCore_eq 0) c))
      = (iprop(inputsWhole d Y ∗ resultsWhole d f ft) : sProp 𝕄) :=
  (bigSep_cores (F := F) (corePart d Y f ft)).trans (cores_whole d Y f ft)

/-- What the SparseCores take together: the inputs and results whole, as they stand. -/
theorem st_whole (d : Dev nD) :
    (bigSep Finset.univ fun c : Fin ((K (F := F)).nCore 0) => (P m).st 0 d c)
      = iprop(inputsWhole d (X m d) ∗ resultsWhole d (out0 m d) (tto0 m d)) :=
  (cores_join d (X m d) (out0 m d) (tto0 m d))

/-- What they give back together: the same, the results at the call's values. -/
theorem dn_whole (d : Dev nD) :
    (bigSep Finset.univ fun c : Fin ((K (F := F)).nCore 0) => (P m).dn 0 d c)
      = iprop(inputsWhole d (X m d) ∗ resultsWhole d (OUT (X m d)) (TTO (X m d))) :=
  (cores_join d (X m d) (OUT (X m d)) (TTO (X m d)))

/-- Every array before the call: those of the call, and the others. -/
theorem before_call (d : Dev nD) :
    (held (d.tc : Thread nD τ) (tcRefs τ sig) (after ops0 (launchContents m d)) : sProp 𝕄)
      = iprop((bigSep Finset.univ fun c : Fin ((K (F := F)).nCore 0) => (P m).st 0 d c)
          ∗ held (d.tc : Thread nD τ) (tcRefs τ sig \ callRefs) (V1 m d)) := by
  show held (d.tc : Thread nD τ) (tcRefs τ sig) (V1 m d) = _
  rw [held_sub_split _ callRefs_sub, call_held, st_whole]
  rfl

/-- And after it. -/
theorem after_call (d : Dev nD) :
    (held (d.tc : Thread nD τ) (tcRefs τ sig) (V2 m d) : sProp 𝕄)
      = iprop((bigSep Finset.univ fun c : Fin ((K (F := F)).nCore 0) => (P m).dn 0 d c)
          ∗ held (d.tc : Thread nD τ) (tcRefs τ sig \ callRefs) (V1 m d)) := by
  rw [held_sub_split _ callRefs_sub, call_held, dn_whole, V2_ins, V2_out, V2_tto]
  refine congrArg _ (held_congr _ fun b hb => ?_)
  have hb := (Finset.mem_sdiff.mp hb).2
  refine V2_other m d b (fun h => hb ?_) fun h => hb ?_
  · rw [h]; unfold callRefs; decide
  · rw [h]; unfold callRefs; decide

variable (ρ : Dev nD → PrngReg)

/-- What the TensorCore ends with: every array at its last contents. -/
abbrev FIN (d : Dev nD) : sProp 𝕄 := held (d.tc : Thread nD τ) (tcRefs τ sig) (after [opT] (V2 m d))

set_option backward.isDefEq.respectTransparency.types false in
/-- The program on a device's TensorCore: the operations before the call, the call, the transposition after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hheld, Hts, -⟩, -⟩
  iapply (wp_seq 𝒱 none Set.univ d (tcRefs τ sig) _ ops0 ops0_sub ops0_fresh (launchContents m d)) $$ [Hb Hheld]
  · isplitl [Hb] <;> iassumption
  iintro ⟨Hb, Hheld⟩
  ihave H := (Entails.of_eq (before_call m d)) $$ Hheld
  icases H with ⟨Hgive, Hrest⟩
  rw [wp_bind]
  iapply ((K (F := F)).wp_run (D (F := F)) 𝒱 (EH := EH) (P := P m) κ d 0) $$ [Hst Hgive Hrest Hb Hts]
  isplitr; · iexact Hctx
  isplitl [Hst]; · iexact Hst
  isplitl [Hgive]; · iexact Hgive
  iintro ⟨Hst, Hback⟩
  ihave Hheld := (Entails.of_eq (after_call m d).symm) $$ [Hback Hrest]
  · isplitl [Hback] <;> iassumption
  rw [show (seq [opT] : Prog _ PUnit) = (seq [opT] >>= fun _ => pure ⟨⟩) from (bind_pure _).symm]
  iapply (wp_seq 𝒱 none Set.univ d (tcRefs τ sig) _ [opT] opT_sub opT_fresh (V2 m d)) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

/-- What is read of a device's final memory: every array at its last contents. -/
def fq (d : Dev nD) (s' : Phys nD τ sig (Elt F)) : Prop :=
  ∀ b : Ref sig .tc, s'.mem.mem ((d.tc : Thread nD τ).loc b) = V3 m d (Proc.devRef .tc b)

/-- What is held at the end tells what every array holds. -/
theorem hfin (d : Dev nD) (s' : Phys nD τ sig (Elt F)) : iprop(FIN m d ∗ SI s') ⊢ (⌜fq m d s'⌝ : sProp 𝕄) := by
  show iprop((bigSep (tcRefs τ sig) fun b => ((d, b) : Loc nD τ sig) ↦{fullShare} V3 m d b) ∗ SI s') ⊢ (⌜fq m d s'⌝ : sProp 𝕄)
  iintro ⟨H, HS⟩
  ihave H := (SI_pointsTo_bufs_agree (st := s') (c := d) (qs := fun _ => fullShare) (F := V3 m d) (tcRefs τ sig)) $$ [H HS]
  · isplitl [HS] <;> iassumption
  icases H with %h
  ipureintro
  exact fun b => h _ (devRef_mem_tcRefs b)

/-! ## The run -/

/-- The end of a run: every array at its last contents, every semaphore at zero. -/
def QC : PUnit × MemSt nD τ sig (Elt F) → Prop := fun r =>
  (∀ (c : Dev nD) (b : Ref sig .tc), r.2.mem ((c.tc : Thread nD τ).loc b) = V3 m c (Proc.devRef .tc b)) ∧ r.2.sem = fun _ => 0

/-- Every fair run of the program, its indices in range, ends with every array at its last contents and every
    semaphore at zero. -/
theorem run_main [∀ e, Nonempty (Elt F e)] (hX : ∀ d, (X m d).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨h, hz⟩)

end Pays

end Cert.Proof.Tile
-- ==== Proof.HostValues.lean ====
/-
  What the call's inputs and the program's results hold, in terms of the arguments.
-/
module

public import proofs.«01_k».proof.Proof.Host
public import Idealize.ShloMosaic.Lib.KernelVsHost
public import Idealize.ShloMosaic.Lib.Pipeline.Value

@[expose] public section

noncomputable section

namespace Cert.Proof.Tile

open Cert.KernelIdeal Cert.KernelIdeal.Gen

open Idealize.ShloMosaic
open Idealize.ShloMosaic.StableHlo

variable {F : FTy → Type} [FloatOps F]

/-- A table padded, cut into blocks of 128 rows, each block transposed, and the whole read flat. -/
def flat (t : S1000000x3.Idx → Elt F .f32) : S4001792.Idx → Elt F .f32 :=
  shapeCast S4001792 (transpose S7816x4x128 [0, 2, 1] (shapeCast S7816x128x4
    (pad S1000448x4 ![0, 0] ![448, 1] ![0, 0] t (sitofp .f32 (constantI S_ 32 0#32)) pads_S1000000x3_S1000448x4_04480_010 h_S_)
    shapeCasts_S1000448x4_S7816x128x4) transposes_S7816x128x4_S7816x4x128_0_2_1) shapeCasts_S7816x4x128_S4001792

/-- Linear terms transposed and read flat. -/
def rows (l : S16384x3.Idx → Elt F .f32) : S49152.Idx → Elt F .f32 :=
  shapeCast S49152 (transpose S3x16384 [1, 0] l transposes_S16384x3_S3x16384_1_0) shapeCasts_S3x16384_S49152

/-- Row `v`, component `c` of a table lies in the flat array at `512 * (v / 128) + v % 128 + 128 * c`. -/
theorem flat_apply (t : S1000000x3.Idx → Elt F .f32) (v : Fin 1000000) (c : Fin 3) (p : Fin 4001792)
    (hp : p.val = 512 * (v.val / 128) + v.val % 128 + 128 * c.val) : flat t (ix1 p) = t (ix2 v c) := by
  have hv := v.isLt
  have hc := c.isLt
  unfold flat
  refine (shapeCast_apply _ _ _ (ix3 (⟨v.val / 128, by omega⟩ : Fin 7816) (⟨c.val, by omega⟩ : Fin 4)
    (⟨v.val % 128, by omega⟩ : Fin 128)) ?_).trans ?_
  · refine (Shape.rowMajor_val_three _).trans (Eq.trans ?_ (Shape.rowMajor_val_one _).symm)
    show (v.val / 128 * 4 + c.val) * 128 + v.val % 128 = p.val
    omega
  refine (transpose_apply _ _ _ _ (ix3 (⟨v.val / 128, by omega⟩ : Fin 7816) (⟨v.val % 128, by omega⟩ : Fin 128)
    (⟨c.val, by omega⟩ : Fin 4)) ?_).trans ?_
  · exact fun b => match b with | 0 => rfl | 1 => rfl | 2 => rfl
  refine (shapeCast_apply _ _ _ (ix2 (⟨v.val, by omega⟩ : Fin 1000448) (⟨c.val, by omega⟩ : Fin 4)) ?_).trans ?_
  · refine (Shape.rowMajor_val_two _).trans (Eq.trans ?_ (Shape.rowMajor_val_three _).symm)
    show v.val * 4 + c.val = (v.val / 128 * 128 + v.val % 128) * 4 + c.val
    omega
  refine pad_apply_of_inside _ _ _ _ _ _ _ _ (ix2 v c) ?_
  refine fun a => match a with | 0 => ?_ | 1 => ?_
  · show v.val = 0 + v.val * 1
    omega
  · show c.val = 0 + c.val * 1
    omega

/-- Row `x`, component `c` of the linear terms lies in the flat array at `16384 * c + x`. -/
theorem rows_apply (l : S16384x3.Idx → Elt F .f32) (x : Fin 16384) (c : Fin 3) (p : Fin 49152)
    (hp : p.val = 16384 * c.val + x.val) : rows l (ix1 p) = l (ix2 x c) := by
  unfold rows
  refine (shapeCast_apply _ _ _ (ix2 c x) ?_).trans ?_
  · refine (Shape.rowMajor_val_two _).trans (Eq.trans ?_ (Shape.rowMajor_val_one _).symm)
    show c.val * 16384 + x.val = p.val
    omega
  refine transpose_apply _ _ _ _ (ix2 x c) ?_
  exact fun b => match b with | 0 => rfl | 1 => rfl

/-- The camera indices in rows of 128, read at an index's row and column, are the indices. -/
theorem block_apply (i : S16384.Idx → Elt F .i32) (a b : Fin 128) (x : Fin 16384) (hx : x.val = 128 * a.val + b.val) :
    shapeCast S128x128 i shapeCasts_S16384_S128x128 (ix2 a b) = i (ix1 x) := by
  refine shapeCast_apply _ _ _ (ix1 x) ?_
  refine (Shape.rowMajor_val_one _).trans (Eq.trans ?_ (Shape.rowMajor_val_two _).symm)
  show x.val = a.val * 128 + b.val
  omega

/-! ## The call's inputs and results, from the arguments -/

section Args

variable (a0 a1 : S16384x3.Idx → Elt F .f32) (a2 a3 : S1000000x3.Idx → Elt F .f32) (a4 : S26.Idx → Elt F .f32)
variable (a5 a6 : S16384.Idx → Elt F .i32)

/-- The call's inputs, computed from the arguments. -/
def insOf : Ins F where
  tA := flat a2
  tB := flat a3
  lA := rows a0
  lB := rows a1
  tt := a4
  cam := shapeCast S128x128 a5 shapeCasts_S16384_S128x128
  sen := a6

/-- The camera index of batch element `x` is the argument's element `x`. -/
theorem camAt_insOf (x : Fin 16384) : camAt (insOf a0 a1 a2 a3 a4 a5 a6) x = a5 (ix1 x) :=
  block_apply a5 _ _ x (by show x.val = 128 * (x.val / 128) + x.val % 128; omega)

/-- Indices in range are in range as the call takes them. -/
theorem insOf_ok (h5 : ∀ j, (a5 j).toNat < 1000000) (h6 : ∀ j, (a6 j).toNat < 26) : (insOf a0 a1 a2 a3 a4 a5 a6).OK :=
  ⟨fun _ => h5 _, h6⟩

/-- Component row `r` at batch element `x`: the table's component at the camera's row, plus the element's own term. -/
theorem OUT_insOf (h5 : ∀ j, (a5 j).toNat < 1000000) (r : Fin 6) (x : Fin 16384) :
    OUT (insOf a0 a1 a2 a3 a4 a5 a6) (ix2 r x) =
      FloatOps.addf (φ := .f32) ((if r.val < 3 then a2 else a3) (ix2 ⟨(a5 (ix1 x)).toNat, h5 _⟩ (comp r)))
        ((if r.val < 3 then a0 else a1) (ix2 x (comp r))) := by
  have hp := pos_toNat (comp r) (a5 (ix1 x)) (h5 _)
  have hl := pos_lt (comp r) (a5 (ix1 x)) (h5 _)
  show FloatOps.addf (φ := .f32) (tabAt (insOf a0 a1 a2 a3 a4 a5 a6) r (pos (comp r) (camAt (insOf a0 a1 a2 a3 a4 a5 a6) x)))
    (linOf (insOf a0 a1 a2 a3 a4 a5 a6) r (ix1 ⟨16384 * (comp r).val + x.val, _⟩)) = _
  rw [camAt_insOf]
  refine congrArg₂ _ ?_ ?_
  · unfold tabAt tabOf
    split
    · exact flat_apply a2 ⟨_, h5 _⟩ (comp r) _ ((Nat.mod_eq_of_lt hl).trans hp)
    · exact flat_apply a3 ⟨_, h5 _⟩ (comp r) _ ((Nat.mod_eq_of_lt hl).trans hp)
  · unfold linOf
    split
    · exact rows_apply a0 x (comp r) _ rfl
    · exact rows_apply a1 x (comp r) _ rfl

/-- The time-to-collision result at batch element `x`: the table at the sensor's index. -/
theorem TTO_insOf (h6 : ∀ j, (a6 j).toNat < 26) (x : Fin 16384) :
    TTO (insOf a0 a1 a2 a3 a4 a5 a6) (ix1 x) = a4 (ix1 ⟨(a6 (ix1 x)).toNat, h6 _⟩) :=
  congrArg (fun k => a4 (ix1 k)) (Fin.ext (Nat.mod_eq_of_lt (h6 _)))

end Args

variable (V : Valuation τ sig (Elt F))

/-- What the call is given. -/
theorem callIns_after : callIns (after ops0 V) =
    insOf (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) := by
  unfold callIns insOf
  congr 1 <;> (simp only [ops0, TRef.binary, TRef.nullary, TRef.ternary, TRef.unary, TRef.toBuf, TRef.ofBuf, cast_eq]; after_results_simp <;> rfl)

/-- The operations before the call leave the arguments as they are. -/
theorem after_args (b : Ref sig .tc)
    (hb : b ∈ [main_arg0, main_arg1, main_arg2, main_arg3, main_arg4, main_arg5, main_arg6]) :
    after ops0 V (Proc.devRef .tc b) = V (Proc.devRef .tc b) := by
  simp only [List.mem_cons, List.not_mem_nil, or_false] at hb
  rcases hb with rfl | rfl | rfl | rfl | rfl | rfl | rfl <;>
    (simp only [ops0, TRef.binary, TRef.nullary, TRef.ternary, TRef.unary, TRef.toBuf, TRef.ofBuf, cast_eq]; after_results_simp)

/-- The operation after the call leaves the arguments and the second result as they are. -/
theorem last_other (b : Ref sig .tc)
    (hb : b ∈ [main_arg0, main_arg1, main_arg2, main_arg3, main_arg4, main_arg5, main_arg6, main_v15_1]) :
    after [opT] V (Proc.devRef .tc b) = V (Proc.devRef .tc b) := by
  simp only [List.mem_cons, List.not_mem_nil, or_false] at hb
  rcases hb with rfl | rfl | rfl | rfl | rfl | rfl | rfl | rfl <;> after_results_simp

/-- The first result is the component rows transposed. -/
theorem last_out : after [opT] V (Proc.devRef .tc main_v16) =
    transpose S16384x6 [1, 0] (V (Proc.devRef .tc main_v15_0)) transposes_S6x16384_S16384x6_1_0 := by
  after_results_simp

end Cert.Proof.Tile
-- ==== Proof.Range.lean ====
/-
  What the precondition says of the index words: every camera index is below 1000000 and every sensor index below 26.
-/
module

public import proofs.«01_k».proof.Proof.Gen.Pre_indices_in_range
public import Idealize.ShloMosaic.Lib.ReduceAll

@[expose] public section

noncomputable section

namespace Cert.Proof.Range

open Idealize.ShloMosaic Cert.Pre_indices_in_range

/-- A word between zero and a bound, both compared signed, is below the bound as a natural number. -/
theorem lt_of_cmp (v : BitVec 32) (n : ℕ) (hn : n < 2 ^ 31) (h0 : IntOp.cmpi .sge v 0#32 = 1#1)
    (h1 : IntOp.cmpi .slt v (BitVec.ofNat 32 n) = 1#1) : v.toNat < n := by
  have hb : ∀ p : Bool, BitVec.ofBool p = 1#1 → p = true := by decide
  have e0 := hb _ h0
  have e1 := hb _ h1
  simp only [BitVec.sle_eq_decide, BitVec.slt_eq_decide, decide_eq_true_eq, BitVec.toInt_eq_toNat_cond, BitVec.toNat_ofNat,
    Nat.reducePow, Nat.zero_mod] at e0 e1
  have := v.isLt
  rw [Nat.mod_eq_of_lt (by omega : n < 4294967296)] at e1
  split at e1 <;> split at e1 <;> omega

variable {F : FTy → Type} [FloatOps F]

/-- The precondition, read at the index words. -/
theorem of_pre (a0 a1 : FVec F S16384x3 .f32) (a2 a3 : FVec F S1000000x3 .f32) (a4 : FVec F S26 .f32) (a5 a6 : IVec S16384 32)
    (h : fn a0 a1 a2 a3 a4 a5 a6 = fun _ => 1#1) : (∀ j, (a5 j).toNat < 1000000) ∧ ∀ j, (a6 j).toNat < 26 := by
  have : Subsingleton S_.Idx := ⟨fun a b => funext fun k => k.elim0⟩
  have e := congrFun h (fun k => k.elim0)
  obtain ⟨e, hD⟩ := IntOp.andi_eq_one.1 e
  obtain ⟨e, hC⟩ := IntOp.andi_eq_one.1 e
  obtain ⟨hA, hB⟩ := IntOp.andi_eq_one.1 e
  exact ⟨fun j => lt_of_cmp _ _ (by decide) (Host.reduce_andi_all _ _ _ _ _ hA j) (Host.reduce_andi_all _ _ _ _ _ hB j),
    fun j => lt_of_cmp _ _ (by decide) (Host.reduce_andi_all _ _ _ _ _ hC j) (Host.reduce_andi_all _ _ _ _ _ hD j)⟩

end Cert.Proof.Range
-- ==== Proof.Lookup.lean ====
/-
  The reference's lookups: where the index words are in range, a lookup reads the row that the word names.
-/
module

public import proofs.«01_k».proof.Proof.Gen.ReferenceIdeal.Run
public import Idealize.ShloMosaic.Lib.ValueIdxCore
public import Idealize.ShloMosaic.Lib.ReduceAll
public import Idealize.ShloMosaic.Lib.Pipeline.Value
public import Idealize.ShloMosaic.Lib.Routing.Ops
public import Idealize.ShloMosaic.Lib.Routing.OpsSet

@[expose] public section

noncomputable section

namespace Cert.Proof.Lookup

open Idealize.ShloMosaic Cert.ReferenceIdeal Cert.ReferenceIdeal.Gen
open Idealize.ShloMosaic.ValueIdx

variable {F : FTy → Type} [FloatOps F]

/-- The index words as a column, a negative word raised by the table's length. -/
def column (n : BitVec 32) (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 n))) i)

/-- Which words of a column are between zero and `top`. -/
def inRange (top : BitVec 32) (w : IVec S16384x1 32) : IVec S16384 1 :=
  Host.reduce IntOp.andi (andi (cmpi .sge w (broadcastInDim S16384x1 ![] bcast_S_S16384x1 (constantI S_ 32 0#32)))
    (cmpi .sle w (broadcastInDim S16384x1 ![0, 1] bcast_S1x1_S16384x1_0_1 (broadcastInDim S1x1 ![1] bcast_S1_S1x1_1 (constantI S1 32 top)))))
    (constantI S_ 1 1#1) reducesTo_S16384x1_S16384_d1 h_S_

/-- Rows of a table of 1000000 rows, looked up. -/
def takeRows (t : S1000000x3.Idx → Elt F .f32) (i : IVec S16384 32) : S16384x3.Idx → Elt F .f32 :=
  select (broadcastInDim S16384x3 ![0] bcast_S16384_S16384x3_0 (inRange 999999#32 (column 1000000#32 i)))
    (Host.gather gather_S1000000x3_S16384x1_S16384x3_1_0_n_n_0_1_13 t (column 1000000#32 i))
    (broadcastInDim S16384x3 ![] bcast_S_S16384x3 (constant S_ .f32 0x7FC00000#32))

/-- Elements of a table of 26, looked up. -/
def takeElts (t : S26.Idx → Elt F .f32) (i : IVec S16384 32) : S16384.Idx → Elt F .f32 :=
  select (inRange 25#32 (column 26#32 i)) (Host.gather gather_S26_S16384x1_S16384_n_0_n_n_0_1_1 t (column 26#32 i))
    (broadcastInDim S16384 ![] bcast_S_S16384 (constant S_ .f32 0x7FC00000#32))

/-- A word below half the range is not negative. -/
theorem slt_zero (v : BitVec 32) (h : v.toNat < 2 ^ 31) : IntOp.cmpi .slt v 0#32 = 0#1 := by
  have e : v.slt 0#32 = false := by
    simp only [BitVec.slt_eq_decide, decide_eq_false_iff_not, BitVec.toInt_eq_toNat_cond, BitVec.toNat_ofNat, Nat.reducePow, Nat.zero_mod]
    split <;> omega
  simp only [IntOp.cmpi, e]; rfl

/-- A word not above a bound below half the range passes both comparisons of the range test. -/
theorem within_one (v top : BitVec 32) (h : v.toNat ≤ top.toNat) (ht : top.toNat < 2 ^ 31) :
    IntOp.andi (IntOp.cmpi .sge v 0#32) (IntOp.cmpi .sle v top) = 1#1 := by
  have e0 : (0#32).sle v = true := by
    simp only [BitVec.sle_eq_decide, decide_eq_true_eq, BitVec.toInt_eq_toNat_cond, BitVec.toNat_ofNat, Nat.reducePow, Nat.zero_mod]
    split <;> omega
  have e1 : v.sle top = true := by
    simp only [BitVec.sle_eq_decide, decide_eq_true_eq, BitVec.toInt_eq_toNat_cond, Nat.reducePow]
    split <;> split <;> omega
  simp only [IntOp.cmpi, e0, e1]; rfl

/-- A word that is not negative stands in the column as it is. -/
theorem column_apply (n : BitVec 32) (i : IVec S16384 32) (q : S16384x1.Idx) (h : (i (ix1 (q 0))).toNat < 2 ^ 31) :
    column n i q = i (ix1 (q 0)) := by
  unfold column
  refine (broadcastInDim_apply _ _ _ _ (ix1 (q 0)) ?_).trans ?_
  · exact fun a => match a with | 0 => rfl
  show (if IntOp.cmpi .slt (i (ix1 (q 0))) 0#32 = 1#1 then _ else _) = _
  rw [slt_zero _ h]
  exact if_neg (by decide)

/-- Every word in range: the mask is one everywhere. -/
theorem inRange_one (n top : BitVec 32) (i : IVec S16384 32) (ht : top.toNat < 2 ^ 31) (h : ∀ j, (i j).toNat ≤ top.toNat) (j : S16384.Idx) :
    inRange top (column n i) j = 1#1 := by
  refine Host.reduce_andi_one _ _ _ _ _ rfl fun q => ?_
  show IntOp.andi (IntOp.cmpi .sge (column n i q) 0#32) (IntOp.cmpi .sle (column n i q) top) = 1#1
  rw [column_apply n i q (lt_of_le_of_lt (h _) ht)]
  exact within_one _ _ (h _) ht

/-- Where the mask is one, a selection takes its first array. -/
theorem select_one {α : Type} {s : Shape} (w : IVec s 1) (a b : s.Idx → α) (j : s.Idx) (h : w j = 1#1) : select w a b j = a j := if_pos h

/-- Row `x`, component `c` of the rows looked up is component `c` of the row that word `x` names. -/
theorem takeRows_apply (t : S1000000x3.Idx → Elt F .f32) (i : IVec S16384 32) (h : ∀ j, (i j).toNat < 1000000) (x : Fin 16384) (c : Fin 3) :
    takeRows t i (ix2 x c) = t (ix2 ⟨(i (ix1 x)).toNat, h _⟩ c) := by
  refine (select_one _ _ _ _ ?_).trans ?_
  · refine (broadcastInDim_apply _ _ _ _ (ix1 x) ?_).trans (inRange_one _ _ _ (by decide) (fun j => Nat.le_of_lt_succ (h j)) _)
    exact fun a => match a with | 0 => rfl
  · refine Routing.gather_row _ rfl rfl rfl rfl rfl t _ x c ⟨(i (ix1 x)).toNat, h _⟩ ?_ (by decide)
    refine (column_apply _ _ _ (lt_trans (h _) (by decide))).trans ?_
    show _ = BitVec.ofNat 32 (i (ix1 x)).toNat
    rw [BitVec.ofNat_toNat, BitVec.setWidth_eq]

/-- Element `x` of the elements looked up is the one that word `x` names. -/
theorem takeElts_apply (t : S26.Idx → Elt F .f32) (i : IVec S16384 32) (h : ∀ j, (i j).toNat < 26) (x : Fin 16384) :
    takeElts t i (ix1 x) = t (ix1 ⟨(i (ix1 x)).toNat, h _⟩) := by
  refine (select_one _ _ _ _ (inRange_one _ _ _ (by decide) (fun j => Nat.le_of_lt_succ (h j)) _)).trans ?_
  refine Routing.gather_take1 _ rfl rfl rfl rfl t _ x ⟨(i (ix1 x)).toNat, h _⟩ ?_ (by decide)
  refine (column_apply _ _ _ (lt_trans (h _) (by decide))).trans ?_
  show _ = BitVec.ofNat 32 (i (ix1 x)).toNat
  rw [BitVec.ofNat_toNat, BitVec.setWidth_eq]

/-- Two arrays of three components side by side. -/
abbrev beside (a b : S16384x3.Idx → Elt F .f32) : S16384x6.Idx → Elt F .f32 :=
  concatenate S16384x6 1 [⟨S16384x3, a⟩, ⟨S16384x3, b⟩] concatenates_S16384x3_S16384x3_S16384x6_d1

/-- Component `r` of two arrays side by side: the first's component below three, the second's from three on. -/
theorem beside_apply (a b : S16384x3.Idx → Elt F .f32) (x : Fin 16384) (r : Fin 6) :
    beside a b (ix2 x r) = (if r.val < 3 then a else b) (ix2 x ⟨r.val % 3, Nat.mod_lt _ (by decide)⟩) := by
  have hr := r.isLt
  by_cases h : r.val < 3
  · rw [if_pos h]
    refine concatenate_pair_apply_left (t := S16384x6) 1 a b _ _ rfl _ ?_
    exact fun k => match k with | 0 => rfl | 1 => Nat.mod_eq_of_lt h
  · rw [if_neg h]
    refine concatenate_pair_apply_right (t := S16384x6) 1 a b _ _ rfl rfl _ ?_ ?_
    · exact fun k hk => match k with | 0 => rfl | 1 => absurd rfl hk
    · show r.val % 3 + 3 = r.val
      omega

end Cert.Proof.Lookup
-- ==== Proof.Claims.lean ====
/-
  The claims: the three frames, and the kernel's results equal to the reference's.
-/
module

public import proofs.«01_k».proof.Proof.Launch
public import proofs.«01_k».proof.Proof.HostValues
public import proofs.«01_k».proof.Proof.Range
public import proofs.«01_k».proof.Proof.Lookup
public import proofs.«01_k».proof.Proof.Gen.Kernel
public import proofs.«01_k».proof.Proof.Gen.Kernel.Skeleton
public import Idealize.ShloMosaic.PureOps.Ideal.Laws

@[expose] public section

noncomputable section

namespace Cert.Proof

open Idealize.ShloMosaic Idealize.SL.Sem
open Cert.KernelIdeal Cert.KernelIdeal.Gen

section Kernel

variable {F : FTy → Type} [FloatOps F] (m : (ℓ : Loc nD τ sig) → Buf (Elt F) ℓ) (d : Dev nD)

/-- The precondition at a device's arguments. -/
def InRange : Prop :=
  Cert.Pre_indices_in_range.fn (F := F) (m (d.tc.loc main_arg0)) (m (d.tc.loc main_arg1)) (m (d.tc.loc main_arg2))
    (m (d.tc.loc main_arg3)) (m (d.tc.loc main_arg4)) (m (d.tc.loc main_arg5)) (m (d.tc.loc main_arg6)) = fun _ => 1#1

/-- The call's inputs on a device, from the arguments there. -/
theorem X_eq : Tile.X m d = Tile.insOf (F := F) (m (d.tc.loc main_arg0)) (m (d.tc.loc main_arg1)) (m (d.tc.loc main_arg2))
    (m (d.tc.loc main_arg3)) (m (d.tc.loc main_arg4)) (m (d.tc.loc main_arg5)) (m (d.tc.loc main_arg6)) :=
  Tile.callIns_after _

/-- Under the precondition the call's index words are in range. -/
theorem X_ok (h : InRange m d) : (Tile.X m d).OK := by
  have hr := Range.of_pre (F := F) _ _ _ _ _ _ _ h
  rw [X_eq]
  exact Tile.insOf_ok (F := F) _ _ _ _ _ _ _ hr.1 hr.2

/-- An argument holds at the end what it held at the start. -/
theorem V3_arg (b : Ref sig .tc) (hb : b ∈ [main_arg0, main_arg1, main_arg2, main_arg3, main_arg4, main_arg5, main_arg6]) :
    Tile.V3 m d (Proc.devRef .tc b) = m (d.tc.loc b) := by
  have hs : b ∈ [main_arg0, main_arg1, main_arg2, main_arg3, main_arg4, main_arg5, main_arg6, main_v15_1] :=
    List.mem_append_left [main_v15_1] hb
  refine (Tile.last_other _ b hs).trans ((Tile.V2_other m d _ ?_ ?_).trans (Tile.after_args _ b hb))
  · simp only [List.mem_cons, List.not_mem_nil, or_false] at hb
    rcases hb with rfl | rfl | rfl | rfl | rfl | rfl | rfl <;> decide
  · simp only [List.mem_cons, List.not_mem_nil, or_false] at hb
    rcases hb with rfl | rfl | rfl | rfl | rfl | rfl | rfl <;> decide

/-- The first result at the end. -/
theorem V3_out : Tile.V3 m d (Proc.devRef .tc main_v16) =
    transpose S16384x6 [1, 0] (Tile.OUT (Tile.X m d)) transposes_S6x16384_S16384x6_1_0 :=
  (Tile.last_out _).trans (congrArg (fun x => transpose S16384x6 [1, 0] x transposes_S6x16384_S16384x6_1_0) (Tile.V2_out m d))

/-- The second result at the end. -/
theorem V3_tto : Tile.V3 m d (Proc.devRef .tc main_v15_1) = Tile.TTO (Tile.X m d) :=
  (Tile.last_other _ _ (by decide)).trans (Tile.V2_tto m d)

variable (ρ : Dev nD → PrngReg)

/-- Every fair run, its indices in range: the results at their values, the arguments as at the start, every semaphore
    at zero. -/
theorem run_kernel [∀ e, Nonempty (Elt F e)] (h : ∀ c, InRange m c) :
    θ_run (Cert.KernelIdeal.defs (F := F)) (Cert.KernelIdeal.threads (F := F)) ⟨m, fun _ => 0, ρ⟩ fun r =>
      (∀ c : Dev nD, r.2.mem (c.tc.loc main_v16) = transpose S16384x6 [1, 0] (Tile.OUT (Tile.X m c)) transposes_S6x16384_S16384x6_1_0
        ∧ r.2.mem (c.tc.loc main_v15_1) = Tile.TTO (Tile.X m c)
        ∧ r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_arg4) = m (c.tc.loc main_arg4) ∧ r.2.mem (c.tc.loc main_arg5) = m (c.tc.loc main_arg5)
        ∧ r.2.mem (c.tc.loc main_arg6) = m (c.tc.loc main_arg6)) ∧ r.2.sem = fun _ => 0 :=
  (θ_run _ _ _).mono (fun _ q => ⟨fun c => ⟨(q.1 c _).trans (V3_out m c), (q.1 c _).trans (V3_tto m c),
      (q.1 c _).trans (V3_arg m c _ (by decide)), (q.1 c _).trans (V3_arg m c _ (by decide)),
      (q.1 c _).trans (V3_arg m c _ (by decide)), (q.1 c _).trans (V3_arg m c _ (by decide)),
      (q.1 c _).trans (V3_arg m c _ (by decide)), (q.1 c _).trans (V3_arg m c _ (by decide)),
      (q.1 c _).trans (V3_arg m c _ (by decide))⟩, q.2⟩)
    (Tile.run_main m ρ fun c => X_ok m c (h c))

end Kernel

/-! ## The frames -/

/-- The idealized kernel runs, leaves its arguments as they are and every semaphore at zero. -/
theorem frame_kernelIdeal : Cert.quiescent_KernelIdeal := fun m ρ h =>
  (θ_run _ _ _).mono (fun _ q => ⟨fun c => (q.1 c).2.2, q.2⟩) (run_kernel (F := Ideal) m ρ h)

/-- The kernel at the bit-exact floats runs, leaves its arguments as they are and every semaphore at zero: the same run, at those floats. -/
theorem frame_kernel : Cert.quiescent_Kernel := fun m ρ h =>
  (θ_run Cert.KernelIdeal.defs _ _).mono (fun _ q => ⟨fun c => (q.1 c).2.2, q.2⟩) (run_kernel (F := Bits) m ρ h)

/-- The reference runs and leaves its arguments as they are; it has no semaphores. -/
theorem frame_referenceIdeal : Cert.quiescent_ReferenceIdeal := fun m ρ _ =>
  (θ_run Cert.ReferenceIdeal.defs _ _).mono (fun r q => ⟨fun c => (q c).2.2, sem_eq_zero_of_no_sems (by decide) r.2⟩)
    (Cert.ReferenceIdeal.Value.run (F := Ideal) m ρ)

/-! ## The values -/

section Values

variable (a0 a1 : S16384x3.Idx → Elt Ideal .f32) (a2 a3 : S1000000x3.Idx → Elt Ideal .f32) (a4 : S26.Idx → Elt Ideal .f32)
variable (a5 a6 : S16384.Idx → Elt Ideal .i32)

/-- The reference's first result. -/
def velocities : S16384x6.Idx → Elt Ideal .f32 :=
  addf (F := Ideal) (φ := .f32) (Lookup.beside (F := Ideal) a0 a1) (Lookup.beside (F := Ideal) (Lookup.takeRows (F := Ideal) a2 a5) (Lookup.takeRows (F := Ideal) a3 a5))

/-- Equal arguments give an equal first result. -/
theorem velocities_congr {a0 a1 b0 b1 : S16384x3.Idx → Elt Ideal .f32} {a2 a3 b2 b3 : S1000000x3.Idx → Elt Ideal .f32}
    {a5 b5 : S16384.Idx → Elt Ideal .i32} (e0 : a0 = b0) (e1 : a1 = b1) (e2 : a2 = b2) (e3 : a3 = b3) (e5 : a5 = b5) :
    velocities a0 a1 a2 a3 a5 = velocities b0 b1 b2 b3 b5 := by
  subst e0 e1 e2 e3 e5; rfl

/-- The component rows transposed are the reference's first result. -/
theorem velocities_eq (h5 : ∀ j, (a5 j).toNat < 1000000) :
    transpose S16384x6 [1, 0] (Tile.OUT (Tile.insOf (F := Ideal) a0 a1 a2 a3 a4 a5 a6)) transposes_S6x16384_S16384x6_1_0 =
      velocities a0 a1 a2 a3 a5 := by
  funext y
  obtain ⟨x, r, rfl⟩ : ∃ (x : Fin 16384) (r : Fin 6), y = ix2 x r := ⟨y 0, y 1, eq_ix2 y⟩
  refine (transpose_apply _ _ _ _ (ix2 r x) ?_).trans ?_
  · exact fun b => match b with | 0 => rfl | 1 => rfl
  refine (Tile.OUT_insOf (F := Ideal) a0 a1 a2 a3 a4 a5 a6 h5 r x).trans ?_
  refine (add_comm (G := EReal) _ _).trans ?_
  refine congrArg₂ (FloatOps.addf (F := Ideal) (φ := .f32)) (Lookup.beside_apply (F := Ideal) a0 a1 x r).symm ?_
  refine Eq.symm ((Lookup.beside_apply (F := Ideal) _ _ x r).trans ?_)
  split
  · exact Lookup.takeRows_apply (F := Ideal) a2 a5 h5 x _
  · exact Lookup.takeRows_apply (F := Ideal) a3 a5 h5 x _

/-- The sensor lookups are the reference's second result. -/
theorem elements_eq (h6 : ∀ j, (a6 j).toNat < 26) :
    Tile.TTO (Tile.insOf (F := Ideal) a0 a1 a2 a3 a4 a5 a6) = Lookup.takeElts (F := Ideal) a4 a6 := by
  funext y
  obtain ⟨x, rfl⟩ : ∃ x : Fin 16384, y = ix1 x := ⟨y 0, eq_ix1 y⟩
  exact (Tile.TTO_insOf (F := Ideal) a0 a1 a2 a3 a4 a5 a6 h6 x).trans (Lookup.takeElts_apply (F := Ideal) a4 a6 h6 x).symm

end Values

/-- Both programs run from the same arguments and end with the same results. -/
theorem algebraic : Cert.algebraic_KernelIdeal_ReferenceIdeal := fun m ρ m' ρ' h e =>
  ⟨fun c => velocities (m (c.tc.loc main_arg0)) (m (c.tc.loc main_arg1)) (m (c.tc.loc main_arg2)) (m (c.tc.loc main_arg3))
      (m (c.tc.loc main_arg5)),
    fun c => Lookup.takeElts (F := Ideal) (m (c.tc.loc main_arg4)) (m (c.tc.loc main_arg6)),
    (θ_run _ _ _).mono (fun _ q c => by
      have hr := Range.of_pre (F := Ideal) _ _ _ _ _ _ _ (h c)
      obtain ⟨q0, q1, q⟩ := q.1 c
      refine ⟨q0.trans ?_, q1.trans ?_, q⟩
      · rw [X_eq]; exact velocities_eq _ _ _ _ _ _ _ hr.1
      · rw [X_eq]; exact elements_eq _ _ _ _ _ _ _ hr.2) (run_kernel (F := Ideal) m ρ h),
    (θ_run Cert.ReferenceIdeal.defs _ _).mono (fun _ q c => by
      obtain ⟨q0, q1, q⟩ := q c
      obtain ⟨e0, e1, e2, e3, e4, e5, e6⟩ := e c
      exact ⟨q0.trans (velocities_congr e0 e1 e2 e3 e5), q1.trans (congrArg₂ (Lookup.takeElts (F := Ideal)) e4 e6), q⟩) (Cert.ReferenceIdeal.Value.run (F := Ideal) m' ρ')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_indices_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim holds. -/
theorem claim : Cert.Claim :=
  ⟨Cert.Kernel.Gen.facts, Cert.KernelIdeal.Gen.facts, Cert.ReferenceIdeal.Gen.facts, Cert.Pre_indices_in_range.Gen.facts,
    frame_kernel, frame_kernelIdeal, frame_referenceIdeal, trivial, algebraic⟩

end Cert.Proof

end
